-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![32768, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S4x2048x128 : Shape := ⟨3, ![4, 2048, 128]⟩
abbrev S4x10x2048x128 : Shape := ⟨4, ![4, 10, 2048, 128]⟩
abbrev S4x10 : Shape := ⟨2, ![4, 10]⟩
abbrev S_ : Shape := ⟨0, ![]⟩
abbrev S2048x128 : Shape := ⟨2, ![2048, 128]⟩
abbrev S1024x2x1x128 : Shape := ⟨4, ![1024, 2, 1, 128]⟩
abbrev S1024x1x1x128 : Shape := ⟨4, ![1024, 1, 1, 128]⟩
abbrev S1024x1x128 : Shape := ⟨3, ![1024, 1, 128]⟩
abbrev S1024x128 : Shape := ⟨2, ![1024, 128]⟩
abbrev S512x2x2x128 : Shape := ⟨4, ![512, 2, 2, 128]⟩
abbrev S512x1x2x128 : Shape := ⟨4, ![512, 1, 2, 128]⟩
abbrev S512x2x128 : Shape := ⟨3, ![512, 2, 128]⟩
abbrev S512x2x1x128 : Shape := ⟨4, ![512, 2, 1, 128]⟩
abbrev S512x1x1x128 : Shape := ⟨4, ![512, 1, 1, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S256x2x2x128 : Shape := ⟨4, ![256, 2, 2, 128]⟩
abbrev S256x1x2x128 : Shape := ⟨4, ![256, 1, 2, 128]⟩
abbrev S128x2x8x128 : Shape := ⟨4, ![128, 2, 8, 128]⟩
abbrev S128x1x8x128 : Shape := ⟨4, ![128, 1, 8, 128]⟩
abbrev S128x8x128 : Shape := ⟨3, ![128, 8, 128]⟩
abbrev S128x2x4x128 : Shape := ⟨4, ![128, 2, 4, 128]⟩
abbrev S128x1x4x128 : Shape := ⟨4, ![128, 1, 4, 128]⟩
abbrev S64x2x16x128 : Shape := ⟨4, ![64, 2, 16, 128]⟩
abbrev S64x1x16x128 : Shape := ⟨4, ![64, 1, 16, 128]⟩
abbrev S64x16x128 : Shape := ⟨3, ![64, 16, 128]⟩
abbrev S64x2x8x128 : Shape := ⟨4, ![64, 2, 8, 128]⟩
abbrev S64x1x8x128 : Shape := ⟨4, ![64, 1, 8, 128]⟩
abbrev S32x2x32x128 : Shape := ⟨4, ![32, 2, 32, 128]⟩
abbrev S32x1x32x128 : Shape := ⟨4, ![32, 1, 32, 128]⟩
abbrev S32x32x128 : Shape := ⟨3, ![32, 32, 128]⟩
abbrev S32x2x16x128 : Shape := ⟨4, ![32, 2, 16, 128]⟩
abbrev S32x1x16x128 : Shape := ⟨4, ![32, 1, 16, 128]⟩
abbrev S16x2x64x128 : Shape := ⟨4, ![16, 2, 64, 128]⟩
abbrev S16x1x64x128 : Shape := ⟨4, ![16, 1, 64, 128]⟩
abbrev S16x64x128 : Shape := ⟨3, ![16, 64, 128]⟩
abbrev S16x2x32x128 : Shape := ⟨4, ![16, 2, 32, 128]⟩
abbrev S16x1x32x128 : Shape := ⟨4, ![16, 1, 32, 128]⟩
abbrev S8x2x128x128 : Shape := ⟨4, ![8, 2, 128, 128]⟩
abbrev S8x1x128x128 : Shape := ⟨4, ![8, 1, 128, 128]⟩
abbrev S8x128x128 : Shape := ⟨3, ![8, 128, 128]⟩
abbrev S8x2x64x128 : Shape := ⟨4, ![8, 2, 64, 128]⟩
abbrev S8x1x64x128 : Shape := ⟨4, ![8, 1, 64, 128]⟩
abbrev S4x2x256x128 : Shape := ⟨4, ![4, 2, 256, 128]⟩
abbrev S4x1x256x128 : Shape := ⟨4, ![4, 1, 256, 128]⟩
abbrev S4x256x128 : Shape := ⟨3, ![4, 256, 128]⟩
abbrev S4x2x128x128 : Shape := ⟨4, ![4, 2, 128, 128]⟩
abbrev S4x1x128x128 : Shape := ⟨4, ![4, 1, 128, 128]⟩
abbrev S2x2x512x128 : Shape := ⟨4, ![2, 2, 512, 128]⟩
abbrev S2x1x512x128 : Shape := ⟨4, ![2, 1, 512, 128]⟩
abbrev S2x512x128 : Shape := ⟨3, ![2, 512, 128]⟩
abbrev S2x2x256x128 : Shape := ⟨4, ![2, 2, 256, 128]⟩
abbrev S2x1x256x128 : Shape := ⟨4, ![2, 1, 256, 128]⟩
abbrev S1x2x1024x128 : Shape := ⟨4, ![1, 2, 1024, 128]⟩
abbrev S1x1x1024x128 : Shape := ⟨4, ![1, 1, 1024, 128]⟩
abbrev S1x1024x128 : Shape := ⟨3, ![1, 1024, 128]⟩
abbrev S1x2x512x128 : Shape := ⟨4, ![1, 2, 512, 128]⟩
abbrev S1x1x512x128 : Shape := ⟨4, ![1, 1, 512, 128]⟩
abbrev S1x2048x128 : Shape := ⟨3, ![1, 2048, 128]⟩
abbrev S1x1 : Shape := ⟨2, ![1, 1]⟩
abbrev S1x1x2048x128 : Shape := ⟨4, ![1, 1, 2048, 128]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .local _ .vmem, ⟨0, _⟩ => ⟨S2048x512, .bf16⟩
  | .local _ .vmem, ⟨1, _⟩ => ⟨S2048x512, .f32⟩
  | .local _ .vmem, ⟨2, _⟩ => ⟨S4x2048x128, .bf16⟩
  | .local _ .vmem, ⟨3, _⟩ => ⟨S4x10x2048x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
@[reducible] def k0_t1_loop : Scf.Loop 32 :=
  let c0_i32_15 : BitVec 32 := 0#32
  let c4_i32_16 : BitVec 32 := 4#32
  let v18 : BitVec 32 := Scalar.addi c0_i32_15 c4_i32_16
  let c1_i32_17 : BitVec 32 := 1#32
  ⟨c0_i32_15, v18, c1_i32_17⟩
def k0_off1 (k0_t1 : Fin k0_t1_loop.trips) : Fin 2 → Nat :=
  let c0_94 : Index := 0#32
  let c0_i32_15 : BitVec 32 := 0#32
  let c1_i32_17 : BitVec 32 := 1#32
  let arg6 : BitVec 32 := Scf.iv c0_i32_15 c1_i32_17 k0_t1
  let c128_i32 : BitVec 32 := 128#32
  let v84 : BitVec 32 := Scalar.muli arg6 c128_i32
  let v85 : Index := Scalar.indexCast v84
  ![0, v85.toNat]
def k0_off2 (k0_t1 : Fin k0_t1_loop.trips) : Fin 3 → Nat :=
  let c0_i32_15 : BitVec 32 := 0#32
  let c1_i32_17 : BitVec 32 := 1#32
  let arg6 : BitVec 32 := Scf.iv c0_i32_15 c1_i32_17 k0_t1
  let v1233 : Index := Scalar.indexCast arg6
  let c0_95 : Index := 0#32
  let c0_96 : Index := 0#32
  ![v1233.toNat, 0, 0]
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let c0_i32_20 : BitVec 32 := 0#32
  let v19 : BitVec 32 := Scalar.shli c1_i32_19 c0_i32_20
  let v20 : BitVec 32 := Scalar.xori v2 v19
  let c1_i32_28 : BitVec 32 := 1#32
  let v21 : BitVec 32 := Scalar.muli v20 c1_i32_28
  let v22 : BitVec 32 := Scalar.addi c0_i32_29 v21
  v22.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_34 : BitVec 32 := 1#32
  let c0_i32_35 : BitVec 32 := 0#32
  let v31 : BitVec 32 := Scalar.shli c1_i32_34 c0_i32_35
  let v32 : BitVec 32 := Scalar.xori v2 v31
  let c1_i32_43 : BitVec 32 := 1#32
  let v33 : BitVec 32 := Scalar.muli v32 c1_i32_43
  let v34 : BitVec 32 := Scalar.addi c0_i32_44 v33
  v34.toNat
def k0_dev7 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_49 : BitVec 32 := 1#32
  let c0_i32_50 : BitVec 32 := 0#32
  let v43 : BitVec 32 := Scalar.shli c1_i32_49 c0_i32_50
  let v44 : BitVec 32 := Scalar.xori v2 v43
  let c1_i32_58 : BitVec 32 := 1#32
  let v45 : BitVec 32 := Scalar.muli v44 c1_i32_58
  let v46 : BitVec 32 := Scalar.addi c0_i32_59 v45
  v46.toNat
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let c0_i32_65 : BitVec 32 := 0#32
  let v55 : BitVec 32 := Scalar.shli c1_i32_64 c0_i32_65
  let v56 : BitVec 32 := Scalar.xori v2 v55
  let c1_i32_72 : BitVec 32 := 1#32
  let v57 : BitVec 32 := Scalar.muli v56 c1_i32_72
  let v58 : BitVec 32 := Scalar.addi c0_i32_73 v57
  v58.toNat
@[reducible] def k0_t2_loop : Scf.Loop 32 :=
  let c0_i32_78 : BitVec 32 := 0#32
  let c13_i32 : BitVec 32 := 13#32
  let v67 : BitVec 32 := Scalar.addi c0_i32_78 c13_i32
  let c1_i32_79 : BitVec 32 := 1#32
  ⟨c0_i32_78, v67, c1_i32_79⟩
def k0_cond1 (k0_t2 : Fin k0_t2_loop.trips) : BitVec 1 :=
  let c0_i32_78 : BitVec 32 := 0#32
  let c1_i32_79 : BitVec 32 := 1#32
  let arg6 : BitVec 32 := Scf.iv c0_i32_78 c1_i32_79 k0_t2
  let c0_i32_94 : BitVec 32 := 0#32
  let v84 : BitVec 32 := Scalar.subi arg6 c0_i32_94
  let c0_i32_95 : BitVec 32 := 0#32
  let v85 : BitVec 1 := Scalar.cmpi .sge v84 c0_i32_95
  let c10_i32 : BitVec 32 := 10#32
  let v86 : BitVec 1 := Scalar.cmpi .slt v84 c10_i32
  let v87 : BitVec 1 := Scalar.andi v85 v86
  let v88 : BitVec 32 := Scalar.extui v87
  let c0_i32_96 : BitVec 32 := 0#32
  let v89 : BitVec 1 := Scalar.cmpi .ne v88 c0_i32_96
  v89

def k0_off3 (k0_t2 : Fin k0_t2_loop.trips) : Fin 2 → Nat :=
  let c0_i32_127 : BitVec 32 := 0#32
  let c0_i32_78 : BitVec 32 := 0#32
  let c1_i32_79 : BitVec 32 := 1#32
  let arg6 : BitVec 32 := Scf.iv c0_i32_78 c1_i32_79 k0_t2
  let c0_i32_94 : BitVec 32 := 0#32
  let v84 : BitVec 32 := Scalar.subi arg6 c0_i32_94
  ![0, v84.toNat]
def k0_off4 (k0_t2 : Fin k0_t2_loop.trips) : Fin 4 → Nat :=
  let c0_i32_125 : BitVec 32 := 0#32
  let c0_i32_78 : BitVec 32 := 0#32
  let c1_i32_79 : BitVec 32 := 1#32
  let arg6 : BitVec 32 := Scf.iv c0_i32_78 c1_i32_79 k0_t2
  let c0_i32_94 : BitVec 32 := 0#32
  let v84 : BitVec 32 := Scalar.subi arg6 c0_i32_94
  let c0_i32_132 : BitVec 32 := 0#32
  let c0_i32_133 : BitVec 32 := 0#32
  ![0, v84.toNat, 0, 0]
def k0_off5 (k0_t2 : Fin k0_t2_loop.trips) : Fin 4 → Nat :=
  let c0_147 : Index := 0#32
  let c0_i32_78 : BitVec 32 := 0#32
  let c1_i32_79 : BitVec 32 := 1#32
  let arg6 : BitVec 32 := Scf.iv c0_i32_78 c1_i32_79 k0_t2
  let c0_i32_94 : BitVec 32 := 0#32
  let v84 : BitVec 32 := Scalar.subi arg6 c0_i32_94
  let v165 : Index := Scalar.indexCast v84
  let c0_148 : Index := 0#32
  let c0_149 : Index := 0#32
  ![0, v165.toNat, 0, 0]
def k0_cond3 (k0_t2 : Fin k0_t2_loop.trips) : BitVec 1 :=
  let c0_i32_78 : BitVec 32 := 0#32
  let c1_i32_79 : BitVec 32 := 1#32
  let arg6 : BitVec 32 := Scf.iv c0_i32_78 c1_i32_79 k0_t2
  let c0_i32_94 : BitVec 32 := 0#32
  let v84 : BitVec 32 := Scalar.subi arg6 c0_i32_94
  let c1_i32_155 : BitVec 32 := 1#32
  let v177 : BitVec 32 := Scalar.addi v84 c1_i32_155
  let c10_i32_156 : BitVec 32 := 10#32
  let v178 : BitVec 1 := Scalar.cmpi .slt v177 c10_i32_156
  let v179 : BitVec 32 := Scalar.extui v178
  let c0_i32_157 : BitVec 32 := 0#32
  let v180 : BitVec 1 := Scalar.cmpi .ne v179 c0_i32_157
  v180

def k0_off6 (k0_t2 : Fin k0_t2_loop.trips) : Fin 2 → Nat :=
  let c0_i32_175 : BitVec 32 := 0#32
  let c0_i32_78 : BitVec 32 := 0#32
  let c1_i32_79 : BitVec 32 := 1#32
  let arg6 : BitVec 32 := Scf.iv c0_i32_78 c1_i32_79 k0_t2
  let c0_i32_94 : BitVec 32 := 0#32
  let v84 : BitVec 32 := Scalar.subi arg6 c0_i32_94
  let c1_i32_170 : BitVec 32 := 1#32
  let v211 : BitVec 32 := Scalar.addi v84 c1_i32_170
  ![0, v211.toNat]
def k0_off7 (k0_t2 : Fin k0_t2_loop.trips) : Fin 4 → Nat :=
  let c0_i32_173 : BitVec 32 := 0#32
  let c0_i32_78 : BitVec 32 := 0#32
  let c1_i32_79 : BitVec 32 := 1#32
  let arg6 : BitVec 32 := Scf.iv c0_i32_78 c1_i32_79 k0_t2
  let c0_i32_94 : BitVec 32 := 0#32
  let v84 : BitVec 32 := Scalar.subi arg6 c0_i32_94
  let c1_i32_170 : BitVec 32 := 1#32
  let v211 : BitVec 32 := Scalar.addi v84 c1_i32_170
  let c0_i32_178 : BitVec 32 := 0#32
  let c0_i32_179 : BitVec 32 := 0#32
  ![0, v211.toNat, 0, 0]
def k0_dev9 (d0 : Dev nD) (k0_t2 : Fin k0_t2_loop.trips) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_171 : BitVec 32 := 1#32
  let c0_i32_78 : BitVec 32 := 0#32
  let c1_i32_79 : BitVec 32 := 1#32
  let arg6 : BitVec 32 := Scf.iv c0_i32_78 c1_i32_79 k0_t2
  let c0_i32_94 : BitVec 32 := 0#32
  let v84 : BitVec 32 := Scalar.subi arg6 c0_i32_94
  let c1_i32_158 : BitVec 32 := 1#32
  let v181 : BitVec 32 := Scalar.addi v84 c1_i32_158
  let c1_i32_159 : BitVec 32 := 1#32
  let v182 : BitVec 1 := Scalar.cmpi .sge v181 c1_i32_159
  let v183 : BitVec 32 := Scalar.extui v182
  let c3_i32_160 : BitVec 32 := 3#32
  let v184 : BitVec 1 := Scalar.cmpi .sge v181 c3_i32_160
  let v185 : BitVec 32 := Scalar.extui v184
  let v186 : BitVec 32 := Scalar.addi v183 v185
  let c6_i32_161 : BitVec 32 := 6#32
  let v187 : BitVec 1 := Scalar.cmpi .sge v181 c6_i32_161
  let v188 : BitVec 32 := Scalar.extui v187
  let v189 : BitVec 32 := Scalar.addi v186 v188
  let c1_i32_162 : BitVec 32 := 1#32
  let v190 : BitVec 32 := Scalar.addi v189 c1_i32_162
  let v191 : BitVec 32 := Scalar.muli v189 v190
  let c0_i32_164 : BitVec 32 := 0#32
  let v193 : BitVec 1 := Scalar.cmpi .sgt v191 c0_i32_164
  let v194 : BitVec 32 := Scalar.extui v193
  let c0_i32_165 : BitVec 32 := 0#32
  let v195 : BitVec 1 := Scalar.cmpi .slt v191 c0_i32_165
  let v196 : BitVec 32 := Scalar.extui v195
  let v197 : BitVec 32 := Scalar.subi v194 v196
  let c2_i32_163 : BitVec 32 := 2#32
  let c0_i32_166 : BitVec 32 := 0#32
  let v198 : BitVec 1 := Scalar.cmpi .sgt c2_i32_163 c0_i32_166
  let v199 : BitVec 32 := Scalar.extui v198
  let c0_i32_167 : BitVec 32 := 0#32
  let v200 : BitVec 1 := Scalar.cmpi .slt c2_i32_163 c0_i32_167
  let v201 : BitVec 32 := Scalar.extui v200
  let v202 : BitVec 32 := Scalar.subi v199 v201
  let v203 : BitVec 1 := Scalar.cmpi .ne v197 v202
  let v204 : BitVec 32 := Scalar.remsi v191 c2_i32_163
  let c0_i32_168 : BitVec 32 := 0#32
  let v205 : BitVec 1 := Scalar.cmpi .ne v204 c0_i32_168
  let v206 : BitVec 1 := Scalar.andi v203 v205
  let v192 : BitVec 32 := Scalar.divsi v191 c2_i32_163
  let c1_i32_169 : BitVec 32 := 1#32
  let v207 : BitVec 32 := Scalar.subi v192 c1_i32_169
  let v208 : BitVec 32 := Scalar.select v206 v207 v192
  let v209 : BitVec 32 := Scalar.addi v208 v189
  let v210 : BitVec 32 := Scalar.subi v209 v181
  let v212 : BitVec 32 := Scalar.shli c1_i32_171 v210
  let v213 : BitVec 32 := Scalar.xori v2 v212
  let c1_i32_176 : BitVec 32 := 1#32
  let v214 : BitVec 32 := Scalar.muli v213 c1_i32_176
  let v215 : BitVec 32 := Scalar.addi c0_i32_177 v214
  v215.toNat
def k0_cond4 (k0_t2 : Fin k0_t2_loop.trips) : BitVec 1 :=
  let c0_i32_78 : BitVec 32 := 0#32
  let c1_i32_79 : BitVec 32 := 1#32
  let arg6 : BitVec 32 := Scf.iv c0_i32_78 c1_i32_79 k0_t2
  let c1_i32_97 : BitVec 32 := 1#32
  let v90 : BitVec 32 := Scalar.subi arg6 c1_i32_97
  let c0_i32_98 : BitVec 32 := 0#32
  let v91 : BitVec 1 := Scalar.cmpi .sge v90 c0_i32_98
  let c10_i32_99 : BitVec 32 := 10#32
  let v92 : BitVec 1 := Scalar.cmpi .slt v90 c10_i32_99
  let v93 : BitVec 1 := Scalar.andi v91 v92
  let v94 : BitVec 32 := Scalar.extui v93
  let c0_i32_100 : BitVec 32 := 0#32
  let v95 : BitVec 1 := Scalar.cmpi .ne v94 c0_i32_100
  v95

def k0_off8 (k0_t2 : Fin k0_t2_loop.trips) : Fin 2 → Nat :=
  let c1_i32_127 : BitVec 32 := 1#32
  let c0_i32_78 : BitVec 32 := 0#32
  let c1_i32_79 : BitVec 32 := 1#32
  let arg6 : BitVec 32 := Scf.iv c0_i32_78 c1_i32_79 k0_t2
  let c1_i32_97 : BitVec 32 := 1#32
  let v90 : BitVec 32 := Scalar.subi arg6 c1_i32_97
  ![1, v90.toNat]
def k0_off9 (k0_t2 : Fin k0_t2_loop.trips) : Fin 4 → Nat :=
  let c1_i32_125 : BitVec 32 := 1#32
  let c0_i32_78 : BitVec 32 := 0#32
  let c1_i32_79 : BitVec 32 := 1#32
  let arg6 : BitVec 32 := Scf.iv c0_i32_78 c1_i32_79 k0_t2
  let c1_i32_97 : BitVec 32 := 1#32
  let v90 : BitVec 32 := Scalar.subi arg6 c1_i32_97
  let c0_i32_132 : BitVec 32 := 0#32
  let c0_i32_133 : BitVec 32 := 0#32
  ![1, v90.toNat, 0, 0]
def k0_off10 (k0_t2 : Fin k0_t2_loop.trips) : Fin 4 → Nat :=
  let c1_147 : Index := 1#32
  let c0_i32_78 : BitVec 32 := 0#32
  let c1_i32_79 : BitVec 32 := 1#32
  let arg6 : BitVec 32 := Scf.iv c0_i32_78 c1_i32_79 k0_t2
  let c1_i32_97 : BitVec 32 := 1#32
  let v90 : BitVec 32 := Scalar.subi arg6 c1_i32_97
  let v165 : Index := Scalar.indexCast v90
  let c0_148 : Index := 0#32
  let c0_149 : Index := 0#32
  ![1, v165.toNat, 0, 0]
def k0_cond6 (k0_t2 : Fin k0_t2_loop.trips) : BitVec 1 :=
  let c0_i32_78 : BitVec 32 := 0#32
  let c1_i32_79 : BitVec 32 := 1#32
  let arg6 : BitVec 32 := Scf.iv c0_i32_78 c1_i32_79 k0_t2
  let c1_i32_97 : BitVec 32 := 1#32
  let v90 : BitVec 32 := Scalar.subi arg6 c1_i32_97
  let c1_i32_155 : BitVec 32 := 1#32
  let v177 : BitVec 32 := Scalar.addi v90 c1_i32_155
  let c10_i32_156 : BitVec 32 := 10#32
  let v178 : BitVec 1 := Scalar.cmpi .slt v177 c10_i32_156
  let v179 : BitVec 32 := Scalar.extui v178
  let c0_i32_157 : BitVec 32 := 0#32
  let v180 : BitVec 1 := Scalar.cmpi .ne v179 c0_i32_157
  v180

def k0_off11 (k0_t2 : Fin k0_t2_loop.trips) : Fin 2 → Nat :=
  let c1_i32_175 : BitVec 32 := 1#32
  let c0_i32_78 : BitVec 32 := 0#32
  let c1_i32_79 : BitVec 32 := 1#32
  let arg6 : BitVec 32 := Scf.iv c0_i32_78 c1_i32_79 k0_t2
  let c1_i32_97 : BitVec 32 := 1#32
  let v90 : BitVec 32 := Scalar.subi arg6 c1_i32_97
  let c1_i32_170 : BitVec 32 := 1#32
  let v211 : BitVec 32 := Scalar.addi v90 c1_i32_170
  ![1, v211.toNat]
def k0_off12 (k0_t2 : Fin k0_t2_loop.trips) : Fin 4 → Nat :=
  let c1_i32_173 : BitVec 32 := 1#32
  let c0_i32_78 : BitVec 32 := 0#32
  let c1_i32_79 : BitVec 32 := 1#32
  let arg6 : BitVec 32 := Scf.iv c0_i32_78 c1_i32_79 k0_t2
  let c1_i32_97 : BitVec 32 := 1#32
  let v90 : BitVec 32 := Scalar.subi arg6 c1_i32_97
  let c1_i32_170 : BitVec 32 := 1#32
  let v211 : BitVec 32 := Scalar.addi v90 c1_i32_170
  let c0_i32_178 : BitVec 32 := 0#32
  let c0_i32_179 : BitVec 32 := 0#32
  ![1, v211.toNat, 0, 0]
def k0_dev10 (d0 : Dev nD) (k0_t2 : Fin k0_t2_loop.trips) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_171 : BitVec 32 := 1#32
  let c0_i32_78 : BitVec 32 := 0#32
  let c1_i32_79 : BitVec 32 := 1#32
  let arg6 : BitVec 32 := Scf.iv c0_i32_78 c1_i32_79 k0_t2
  let c1_i32_97 : BitVec 32 := 1#32
  let v90 : BitVec 32 := Scalar.subi arg6 c1_i32_97
  let c1_i32_158 : BitVec 32 := 1#32
  let v181 : BitVec 32 := Scalar.addi v90 c1_i32_158
  let c1_i32_159 : BitVec 32 := 1#32
  let v182 : BitVec 1 := Scalar.cmpi .sge v181 c1_i32_159
  let v183 : BitVec 32 := Scalar.extui v182
  let c3_i32_160 : BitVec 32 := 3#32
  let v184 : BitVec 1 := Scalar.cmpi .sge v181 c3_i32_160
  let v185 : BitVec 32 := Scalar.extui v184
  let v186 : BitVec 32 := Scalar.addi v183 v185
  let c6_i32_161 : BitVec 32 := 6#32
  let v187 : BitVec 1 := Scalar.cmpi .sge v181 c6_i32_161
  let v188 : BitVec 32 := Scalar.extui v187
  let v189 : BitVec 32 := Scalar.addi v186 v188
  let c1_i32_162 : BitVec 32 := 1#32
  let v190 : BitVec 32 := Scalar.addi v189 c1_i32_162
  let v191 : BitVec 32 := Scalar.muli v189 v190
  let c0_i32_164 : BitVec 32 := 0#32
  let v193 : BitVec 1 := Scalar.cmpi .sgt v191 c0_i32_164
  let v194 : BitVec 32 := Scalar.extui v193
  let c0_i32_165 : BitVec 32 := 0#32
  let v195 : BitVec 1 := Scalar.cmpi .slt v191 c0_i32_165
  let v196 : BitVec 32 := Scalar.extui v195
  let v197 : BitVec 32 := Scalar.subi v194 v196
  let c2_i32_163 : BitVec 32 := 2#32
  let c0_i32_166 : BitVec 32 := 0#32
  let v198 : BitVec 1 := Scalar.cmpi .sgt c2_i32_163 c0_i32_166
  let v199 : BitVec 32 := Scalar.extui v198
  let c0_i32_167 : BitVec 32 := 0#32
  let v200 : BitVec 1 := Scalar.cmpi .slt c2_i32_163 c0_i32_167
  let v201 : BitVec 32 := Scalar.extui v200
  let v202 : BitVec 32 := Scalar.subi v199 v201
  let v203 : BitVec 1 := Scalar.cmpi .ne v197 v202
  let v204 : BitVec 32 := Scalar.remsi v191 c2_i32_163
  let c0_i32_168 : BitVec 32 := 0#32
  let v205 : BitVec 1 := Scalar.cmpi .ne v204 c0_i32_168
  let v206 : BitVec 1 := Scalar.andi v203 v205
  let v192 : BitVec 32 := Scalar.divsi v191 c2_i32_163
  let c1_i32_169 : BitVec 32 := 1#32
  let v207 : BitVec 32 := Scalar.subi v192 c1_i32_169
  let v208 : BitVec 32 := Scalar.select v206 v207 v192
  let v209 : BitVec 32 := Scalar.addi v208 v189
  let v210 : BitVec 32 := Scalar.subi v209 v181
  let v212 : BitVec 32 := Scalar.shli c1_i32_171 v210
  let v213 : BitVec 32 := Scalar.xori v2 v212
  let c1_i32_176 : BitVec 32 := 1#32
  let v214 : BitVec 32 := Scalar.muli v213 c1_i32_176
  let v215 : BitVec 32 := Scalar.addi c0_i32_177 v214
  v215.toNat
def k0_cond7 (k0_t2 : Fin k0_t2_loop.trips) : BitVec 1 :=
  let c0_i32_78 : BitVec 32 := 0#32
  let c1_i32_79 : BitVec 32 := 1#32
  let arg6 : BitVec 32 := Scf.iv c0_i32_78 c1_i32_79 k0_t2
  let c2_i32_101 : BitVec 32 := 2#32
  let v96 : BitVec 32 := Scalar.subi arg6 c2_i32_101
  let c0_i32_102 : BitVec 32 := 0#32
  let v97 : BitVec 1 := Scalar.cmpi .sge v96 c0_i32_102
  let c10_i32_103 : BitVec 32 := 10#32
  let v98 : BitVec 1 := Scalar.cmpi .slt v96 c10_i32_103
  let v99 : BitVec 1 := Scalar.andi v97 v98
  let v100 : BitVec 32 := Scalar.extui v99
  let c0_i32_104 : BitVec 32 := 0#32
  let v101 : BitVec 1 := Scalar.cmpi .ne v100 c0_i32_104
  v101

def k0_off13 (k0_t2 : Fin k0_t2_loop.trips) : Fin 2 → Nat :=
  let c2_i32_127 : BitVec 32 := 2#32
  let c0_i32_78 : BitVec 32 := 0#32
  let c1_i32_79 : BitVec 32 := 1#32
  let arg6 : BitVec 32 := Scf.iv c0_i32_78 c1_i32_79 k0_t2
  let c2_i32_101 : BitVec 32 := 2#32
  let v96 : BitVec 32 := Scalar.subi arg6 c2_i32_101
  ![2, v96.toNat]
def k0_off14 (k0_t2 : Fin k0_t2_loop.trips) : Fin 4 → Nat :=
  let c2_i32_125 : BitVec 32 := 2#32
  let c0_i32_78 : BitVec 32 := 0#32
  let c1_i32_79 : BitVec 32 := 1#32
  let arg6 : BitVec 32 := Scf.iv c0_i32_78 c1_i32_79 k0_t2
  let c2_i32_101 : BitVec 32 := 2#32
  let v96 : BitVec 32 := Scalar.subi arg6 c2_i32_101
  let c0_i32_132 : BitVec 32 := 0#32
  let c0_i32_133 : BitVec 32 := 0#32
  ![2, v96.toNat, 0, 0]
def k0_off15 (k0_t2 : Fin k0_t2_loop.trips) : Fin 4 → Nat :=
  let c2_147 : Index := 2#32
  let c0_i32_78 : BitVec 32 := 0#32
  let c1_i32_79 : BitVec 32 := 1#32
  let arg6 : BitVec 32 := Scf.iv c0_i32_78 c1_i32_79 k0_t2
  let c2_i32_101 : BitVec 32 := 2#32
  let v96 : BitVec 32 := Scalar.subi arg6 c2_i32_101
  let v165 : Index := Scalar.indexCast v96
  let c0_148 : Index := 0#32
  let c0_149 : Index := 0#32
  ![2, v165.toNat, 0, 0]
def k0_cond9 (k0_t2 : Fin k0_t2_loop.trips) : BitVec 1 :=
  let c0_i32_78 : BitVec 32 := 0#32
  let c1_i32_79 : BitVec 32 := 1#32
  let arg6 : BitVec 32 := Scf.iv c0_i32_78 c1_i32_79 k0_t2
  let c2_i32_101 : BitVec 32 := 2#32
  let v96 : BitVec 32 := Scalar.subi arg6 c2_i32_101
  let c1_i32_155 : BitVec 32 := 1#32
  let v177 : BitVec 32 := Scalar.addi v96 c1_i32_155
  let c10_i32_156 : BitVec 32 := 10#32
  let v178 : BitVec 1 := Scalar.cmpi .slt v177 c10_i32_156
  let v179 : BitVec 32 := Scalar.extui v178
  let c0_i32_157 : BitVec 32 := 0#32
  let v180 : BitVec 1 := Scalar.cmpi .ne v179 c0_i32_157
  v180

def k0_off16 (k0_t2 : Fin k0_t2_loop.trips) : Fin 2 → Nat :=
  let c2_i32_175 : BitVec 32 := 2#32
  let c0_i32_78 : BitVec 32 := 0#32
  let c1_i32_79 : BitVec 32 := 1#32
  let arg6 : BitVec 32 := Scf.iv c0_i32_78 c1_i32_79 k0_t2
  let c2_i32_101 : BitVec 32 := 2#32
  let v96 : BitVec 32 := Scalar.subi arg6 c2_i32_101
  let c1_i32_170 : BitVec 32 := 1#32
  let v211 : BitVec 32 := Scalar.addi v96 c1_i32_170
  ![2, v211.toNat]
def k0_off17 (k0_t2 : Fin k0_t2_loop.trips) : Fin 4 → Nat :=
  let c2_i32_173 : BitVec 32 := 2#32
  let c0_i32_78 : BitVec 32 := 0#32
  let c1_i32_79 : BitVec 32 := 1#32
  let arg6 : BitVec 32 := Scf.iv c0_i32_78 c1_i32_79 k0_t2
  let c2_i32_101 : BitVec 32 := 2#32
  let v96 : BitVec 32 := Scalar.subi arg6 c2_i32_101
  let c1_i32_170 : BitVec 32 := 1#32
  let v211 : BitVec 32 := Scalar.addi v96 c1_i32_170
  let c0_i32_178 : BitVec 32 := 0#32
  let c0_i32_179 : BitVec 32 := 0#32
  ![2, v211.toNat, 0, 0]
def k0_dev11 (d0 : Dev nD) (k0_t2 : Fin k0_t2_loop.trips) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_171 : BitVec 32 := 1#32
  let c0_i32_78 : BitVec 32 := 0#32
  let c1_i32_79 : BitVec 32 := 1#32
  let arg6 : BitVec 32 := Scf.iv c0_i32_78 c1_i32_79 k0_t2
  let c2_i32_101 : BitVec 32 := 2#32
  let v96 : BitVec 32 := Scalar.subi arg6 c2_i32_101
  let c1_i32_158 : BitVec 32 := 1#32
  let v181 : BitVec 32 := Scalar.addi v96 c1_i32_158
  let c1_i32_159 : BitVec 32 := 1#32
  let v182 : BitVec 1 := Scalar.cmpi .sge v181 c1_i32_159
  let v183 : BitVec 32 := Scalar.extui v182
  let c3_i32_160 : BitVec 32 := 3#32
  let v184 : BitVec 1 := Scalar.cmpi .sge v181 c3_i32_160
  let v185 : BitVec 32 := Scalar.extui v184
  let v186 : BitVec 32 := Scalar.addi v183 v185
  let c6_i32_161 : BitVec 32 := 6#32
  let v187 : BitVec 1 := Scalar.cmpi .sge v181 c6_i32_161
  let v188 : BitVec 32 := Scalar.extui v187
  let v189 : BitVec 32 := Scalar.addi v186 v188
  let c1_i32_162 : BitVec 32 := 1#32
  let v190 : BitVec 32 := Scalar.addi v189 c1_i32_162
  let v191 : BitVec 32 := Scalar.muli v189 v190
  let c0_i32_164 : BitVec 32 := 0#32
  let v193 : BitVec 1 := Scalar.cmpi .sgt v191 c0_i32_164
  let v194 : BitVec 32 := Scalar.extui v193
  let c0_i32_165 : BitVec 32 := 0#32
  let v195 : BitVec 1 := Scalar.cmpi .slt v191 c0_i32_165
  let v196 : BitVec 32 := Scalar.extui v195
  let v197 : BitVec 32 := Scalar.subi v194 v196
  let c2_i32_163 : BitVec 32 := 2#32
  let c0_i32_166 : BitVec 32 := 0#32
  let v198 : BitVec 1 := Scalar.cmpi .sgt c2_i32_163 c0_i32_166
  let v199 : BitVec 32 := Scalar.extui v198
  let c0_i32_167 : BitVec 32 := 0#32
  let v200 : BitVec 1 := Scalar.cmpi .slt c2_i32_163 c0_i32_167
  let v201 : BitVec 32 := Scalar.extui v200
  let v202 : BitVec 32 := Scalar.subi v199 v201
  let v203 : BitVec 1 := Scalar.cmpi .ne v197 v202
  let v204 : BitVec 32 := Scalar.remsi v191 c2_i32_163
  let c0_i32_168 : BitVec 32 := 0#32
  let v205 : BitVec 1 := Scalar.cmpi .ne v204 c0_i32_168
  let v206 : BitVec 1 := Scalar.andi v203 v205
  let v192 : BitVec 32 := Scalar.divsi v191 c2_i32_163
  let c1_i32_169 : BitVec 32 := 1#32
  let v207 : BitVec 32 := Scalar.subi v192 c1_i32_169
  let v208 : BitVec 32 := Scalar.select v206 v207 v192
  let v209 : BitVec 32 := Scalar.addi v208 v189
  let v210 : BitVec 32 := Scalar.subi v209 v181
  let v212 : BitVec 32 := Scalar.shli c1_i32_171 v210
  let v213 : BitVec 32 := Scalar.xori v2 v212
  let c1_i32_176 : BitVec 32 := 1#32
  let v214 : BitVec 32 := Scalar.muli v213 c1_i32_176
  let v215 : BitVec 32 := Scalar.addi c0_i32_177 v214
  v215.toNat
def k0_cond10 (k0_t2 : Fin k0_t2_loop.trips) : BitVec 1 :=
  let c0_i32_78 : BitVec 32 := 0#32
  let c1_i32_79 : BitVec 32 := 1#32
  let arg6 : BitVec 32 := Scf.iv c0_i32_78 c1_i32_79 k0_t2
  let c3_i32_105 : BitVec 32 := 3#32
  let v102 : BitVec 32 := Scalar.subi arg6 c3_i32_105
  let c0_i32_106 : BitVec 32 := 0#32
  let v103 : BitVec 1 := Scalar.cmpi .sge v102 c0_i32_106
  let c10_i32_107 : BitVec 32 := 10#32
  let v104 : BitVec 1 := Scalar.cmpi .slt v102 c10_i32_107
  let v105 : BitVec 1 := Scalar.andi v103 v104
  let v106 : BitVec 32 := Scalar.extui v105
  let c0_i32_108 : BitVec 32 := 0#32
  let v107 : BitVec 1 := Scalar.cmpi .ne v106 c0_i32_108
  v107

def k0_off18 (k0_t2 : Fin k0_t2_loop.trips) : Fin 2 → Nat :=
  let c3_i32_127 : BitVec 32 := 3#32
  let c0_i32_78 : BitVec 32 := 0#32
  let c1_i32_79 : BitVec 32 := 1#32
  let arg6 : BitVec 32 := Scf.iv c0_i32_78 c1_i32_79 k0_t2
  let c3_i32_105 : BitVec 32 := 3#32
  let v102 : BitVec 32 := Scalar.subi arg6 c3_i32_105
  ![3, v102.toNat]
def k0_off19 (k0_t2 : Fin k0_t2_loop.trips) : Fin 4 → Nat :=
  let c3_i32_125 : BitVec 32 := 3#32
  let c0_i32_78 : BitVec 32 := 0#32
  let c1_i32_79 : BitVec 32 := 1#32
  let arg6 : BitVec 32 := Scf.iv c0_i32_78 c1_i32_79 k0_t2
  let c3_i32_105 : BitVec 32 := 3#32
  let v102 : BitVec 32 := Scalar.subi arg6 c3_i32_105
  let c0_i32_132 : BitVec 32 := 0#32
  let c0_i32_133 : BitVec 32 := 0#32
  ![3, v102.toNat, 0, 0]
def k0_off20 (k0_t2 : Fin k0_t2_loop.trips) : Fin 4 → Nat :=
  let c3_147 : Index := 3#32
  let c0_i32_78 : BitVec 32 := 0#32
  let c1_i32_79 : BitVec 32 := 1#32
  let arg6 : BitVec 32 := Scf.iv c0_i32_78 c1_i32_79 k0_t2
  let c3_i32_105 : BitVec 32 := 3#32
  let v102 : BitVec 32 := Scalar.subi arg6 c3_i32_105
  let v165 : Index := Scalar.indexCast v102
  let c0_148 : Index := 0#32
  let c0_149 : Index := 0#32
  ![3, v165.toNat, 0, 0]
def k0_cond12 (k0_t2 : Fin k0_t2_loop.trips) : BitVec 1 :=
  let c0_i32_78 : BitVec 32 := 0#32
  let c1_i32_79 : BitVec 32 := 1#32
  let arg6 : BitVec 32 := Scf.iv c0_i32_78 c1_i32_79 k0_t2
  let c3_i32_105 : BitVec 32 := 3#32
  let v102 : BitVec 32 := Scalar.subi arg6 c3_i32_105
  let c1_i32_155 : BitVec 32 := 1#32
  let v177 : BitVec 32 := Scalar.addi v102 c1_i32_155
  let c10_i32_156 : BitVec 32 := 10#32
  let v178 : BitVec 1 := Scalar.cmpi .slt v177 c10_i32_156
  let v179 : BitVec 32 := Scalar.extui v178
  let c0_i32_157 : BitVec 32 := 0#32
  let v180 : BitVec 1 := Scalar.cmpi .ne v179 c0_i32_157
  v180

def k0_off21 (k0_t2 : Fin k0_t2_loop.trips) : Fin 2 → Nat :=
  let c3_i32_175 : BitVec 32 := 3#32
  let c0_i32_78 : BitVec 32 := 0#32
  let c1_i32_79 : BitVec 32 := 1#32
  let arg6 : BitVec 32 := Scf.iv c0_i32_78 c1_i32_79 k0_t2
  let c3_i32_105 : BitVec 32 := 3#32
  let v102 : BitVec 32 := Scalar.subi arg6 c3_i32_105
  let c1_i32_170 : BitVec 32 := 1#32
  let v211 : BitVec 32 := Scalar.addi v102 c1_i32_170
  ![3, v211.toNat]
def k0_off22 (k0_t2 : Fin k0_t2_loop.trips) : Fin 4 → Nat :=
  let c3_i32_173 : BitVec 32 := 3#32
  let c0_i32_78 : BitVec 32 := 0#32
  let c1_i32_79 : BitVec 32 := 1#32
  let arg6 : BitVec 32 := Scf.iv c0_i32_78 c1_i32_79 k0_t2
  let c3_i32_105 : BitVec 32 := 3#32
  let v102 : BitVec 32 := Scalar.subi arg6 c3_i32_105
  let c1_i32_170 : BitVec 32 := 1#32
  let v211 : BitVec 32 := Scalar.addi v102 c1_i32_170
  let c0_i32_178 : BitVec 32 := 0#32
  let c0_i32_179 : BitVec 32 := 0#32
  ![3, v211.toNat, 0, 0]
def k0_dev12 (d0 : Dev nD) (k0_t2 : Fin k0_t2_loop.trips) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_171 : BitVec 32 := 1#32
  let c0_i32_78 : BitVec 32 := 0#32
  let c1_i32_79 : BitVec 32 := 1#32
  let arg6 : BitVec 32 := Scf.iv c0_i32_78 c1_i32_79 k0_t2
  let c3_i32_105 : BitVec 32 := 3#32
  let v102 : BitVec 32 := Scalar.subi arg6 c3_i32_105
  let c1_i32_158 : BitVec 32 := 1#32
  let v181 : BitVec 32 := Scalar.addi v102 c1_i32_158
  let c1_i32_159 : BitVec 32 := 1#32
  let v182 : BitVec 1 := Scalar.cmpi .sge v181 c1_i32_159
  let v183 : BitVec 32 := Scalar.extui v182
  let c3_i32_160 : BitVec 32 := 3#32
  let v184 : BitVec 1 := Scalar.cmpi .sge v181 c3_i32_160
  let v185 : BitVec 32 := Scalar.extui v184
  let v186 : BitVec 32 := Scalar.addi v183 v185
  let c6_i32_161 : BitVec 32 := 6#32
  let v187 : BitVec 1 := Scalar.cmpi .sge v181 c6_i32_161
  let v188 : BitVec 32 := Scalar.extui v187
  let v189 : BitVec 32 := Scalar.addi v186 v188
  let c1_i32_162 : BitVec 32 := 1#32
  let v190 : BitVec 32 := Scalar.addi v189 c1_i32_162
  let v191 : BitVec 32 := Scalar.muli v189 v190
  let c0_i32_164 : BitVec 32 := 0#32
  let v193 : BitVec 1 := Scalar.cmpi .sgt v191 c0_i32_164
  let v194 : BitVec 32 := Scalar.extui v193
  let c0_i32_165 : BitVec 32 := 0#32
  let v195 : BitVec 1 := Scalar.cmpi .slt v191 c0_i32_165
  let v196 : BitVec 32 := Scalar.extui v195
  let v197 : BitVec 32 := Scalar.subi v194 v196
  let c2_i32_163 : BitVec 32 := 2#32
  let c0_i32_166 : BitVec 32 := 0#32
  let v198 : BitVec 1 := Scalar.cmpi .sgt c2_i32_163 c0_i32_166
  let v199 : BitVec 32 := Scalar.extui v198
  let c0_i32_167 : BitVec 32 := 0#32
  let v200 : BitVec 1 := Scalar.cmpi .slt c2_i32_163 c0_i32_167
  let v201 : BitVec 32 := Scalar.extui v200
  let v202 : BitVec 32 := Scalar.subi v199 v201
  let v203 : BitVec 1 := Scalar.cmpi .ne v197 v202
  let v204 : BitVec 32 := Scalar.remsi v191 c2_i32_163
  let c0_i32_168 : BitVec 32 := 0#32
  let v205 : BitVec 1 := Scalar.cmpi .ne v204 c0_i32_168
  let v206 : BitVec 1 := Scalar.andi v203 v205
  let v192 : BitVec 32 := Scalar.divsi v191 c2_i32_163
  let c1_i32_169 : BitVec 32 := 1#32
  let v207 : BitVec 32 := Scalar.subi v192 c1_i32_169
  let v208 : BitVec 32 := Scalar.select v206 v207 v192
  let v209 : BitVec 32 := Scalar.addi v208 v189
  let v210 : BitVec 32 := Scalar.subi v209 v181
  let v212 : BitVec 32 := Scalar.shli c1_i32_171 v210
  let v213 : BitVec 32 := Scalar.xori v2 v212
  let c1_i32_176 : BitVec 32 := 1#32
  let v214 : BitVec 32 := Scalar.muli v213 c1_i32_176
  let v215 : BitVec 32 := Scalar.addi c0_i32_177 v214
  v215.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩

abbrev nBuf : Space → Nat
  | .hbm => 3
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .f32⟩
  | .hbm, ⟨2, _⟩ => ⟨S32768x512, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Contents.lean ====
/-
# `Contents`: which device pairs with which, and what every buffer holds at every moment

The kernel sorts each column of 32768 keys cut over 16 devices. It goes in four independent column panels (`i`). A
device first sorts its own 2048 rows of a panel, then takes part in ten exchanges (`e`), each with the device whose
number differs in one bit. This module says, in plain numbers, which bit that is, which half a device keeps and in
which direction it merges, proves the kernel's integer chains compute exactly these, and defines the contents a panel
has after `n` exchanges.
-/
module

public import proofs.«01_k».proof.Proof.Gen.KernelIdeal
public import proofs.«01_k».proof.Proof.Gen.KernelIdeal.Skeleton

@[expose] public section

noncomputable section

namespace Cert.Mesh

open Cert.KernelIdeal Cert.KernelIdeal.Gen
open Idealize.ShloMosaic Idealize.SL.Sem

variable {F : FTy → Type} [FloatOps F]

/-! ## Plain numbers -/

/-- The bit of the device number that exchange `e` flips. -/
def bOf (e : ℕ) : Fin 4 := match e with
  | 1 => 1 | 3 => 2 | 4 => 1 | 6 => 3 | 7 => 2 | 8 => 1 | _ => 0

/-- The bit of the device number that says in which direction the run exchange `e` belongs to is merged. -/
def dOf (e : ℕ) : ℕ := match e with
  | 0 => 1 | 1 => 2 | 2 => 2 | 3 => 3 | 4 => 3 | 5 => 3 | _ => 4

/-- The device whose number differs from `c`'s in bit `b`. -/
def flip (b : Fin 4) (c : Dev nD) : Dev nD := ⟨(c.val ^^^ (1 <<< b.val)) % 16, Nat.mod_lt _ (by decide)⟩

theorem flip_flip : ∀ (b : Fin 4) (c : Dev nD), flip b (flip b c) = c := by decide +kernel
theorem flip_ne : ∀ (b b' : Fin 4) (c : Dev nD), flip b c = flip b' c → b = b' := by decide +kernel

/-- Flipping a bit, as a rearrangement of the devices. -/
def flipE (b : Fin 4) : Dev nD ≃ Dev nD := ⟨flip b, flip b, flip_flip b, flip_flip b⟩

/-- The device `c` exchanges with at exchange `e`. -/
def peer (c : Dev nD) (e : ℕ) : Dev nD := flip (bOf e) c

theorem peer_peer (c : Dev nD) (e : ℕ) : peer (peer c e) e = c := flip_flip _ _

/-- Whether device `c` merges towards ascending order in exchange `e`'s run. -/
def asc (c : Dev nD) (e : ℕ) : BitVec 1 := if (c.val >>> dOf e) % 2 = 0 then 1#1 else 0#1
/-- Whether device `c` is the lower of the pair in exchange `e`. -/
def low (c : Dev nD) (e : ℕ) : BitVec 1 := if (c.val >>> (bOf e).val) % 2 = 0 then 1#1 else 0#1
/-- Whether device `c` keeps the smaller keys in exchange `e`. -/
def keep (c : Dev nD) (e : ℕ) : BitVec 1 := if low c e = asc c e then 1#1 else 0#1

/-- Index `n` read as an exchange number. -/
def ex (n : ℕ) : Fin 10 := ⟨n % 10, Nat.mod_lt _ (by decide)⟩
theorem ex_val {n : ℕ} (h : n < 10) : (ex n).val = n := Nat.mod_eq_of_lt h

/-! ## The kernel's integer chains compute them -/

/-- A device's number as the kernel computes it. -/
def wDev (c : Dev nD) : BitVec 32 := Scalar.remsi (Scalar.divsi (Dev.word c) 1#32) 16#32

/-- How many runs before exchange `v` are finished (a sum of comparisons). -/
def wRun (v : BitVec 32) : BitVec 32 :=
  Scalar.addi (Scalar.addi (Scalar.extui (Scalar.cmpi .sge v 1#32)) (Scalar.extui (Scalar.cmpi .sge v 3#32))) (Scalar.extui (Scalar.cmpi .sge v 6#32))

/-- Half of the word `p`, rounded down. -/
def wHalf (p : BitVec 32) : BitVec 32 :=
  Scalar.select
    (Scalar.andi
      (Scalar.cmpi .ne (Scalar.subi (Scalar.extui (Scalar.cmpi .sgt p 0#32)) (Scalar.extui (Scalar.cmpi .slt p 0#32)))
        (Scalar.subi (Scalar.extui (Scalar.cmpi .sgt 2#32 0#32) : BitVec 32) (Scalar.extui (Scalar.cmpi .slt 2#32 0#32))))
      (Scalar.cmpi .ne (Scalar.remsi p 2#32) 0#32))
    (Scalar.subi (Scalar.divsi p 2#32) 1#32) (Scalar.divsi p 2#32)

/-- The bit exchange `v` flips. -/
def wBit (v : BitVec 32) : BitVec 32 :=
  Scalar.subi (Scalar.addi (wHalf (Scalar.muli (wRun v) (Scalar.addi (wRun v) 1#32))) (wRun v)) v

/-- The direction of exchange `v`'s run on the device numbered `d`. -/
def wAsc (d v : BitVec 32) : BitVec 1 :=
  Scalar.cmpi .eq (Scalar.andi (Scalar.shrsi d (Scalar.subi (Scalar.addi 12#32 (wRun v)) 11#32)) 1#32) 0#32

/-- Whether the device numbered `d` keeps the smaller keys in exchange `v`. -/
def wKeep (d v : BitVec 32) : BitVec 1 :=
  Scalar.xori (Scalar.xori (Scalar.cmpi .eq (Scalar.andi (Scalar.shrsi d (wBit v)) 1#32) 0#32) (wAsc d v)) 1#1

theorem wAsc_eq : ∀ (c : Dev nD) (e : Fin 10), wAsc (wDev c) (BitVec.ofNat 32 e.val) = asc c e.val := by decide +kernel
theorem wKeep_eq : ∀ (c : Dev nD) (e : Fin 10), wKeep (wDev c) (BitVec.ofNat 32 e.val) = keep c e.val := by decide +kernel

/-- Whether exchange `v` ends its run, as the word the kernel branches on. -/
def wEnd (v : BitVec 32) : BitVec 1 := Scalar.cmpi .ne (Scalar.extui (Scalar.cmpi .eq (wBit v) 0#32) : BitVec 32) 0#32

theorem wEnd_eq : ∀ e : Fin 10, wEnd (BitVec.ofNat 32 e.val) = if bOf e.val = 0 then 1#1 else 0#1 := by decide +kernel

/-! ## Contents -/

/-- A device's 2048 rows of one panel after the kernel's own sort of them (descending on an odd device). -/
def presort (c : Dev nD) (v86 : Vec F S2048x128 .bf16) : FVec F S1x2048x128 .bf16 :=
  let v140 := k0_pay4 v86
  let v260 := k0_pay10 (k0_pay6 v140) (k0_pay8 v140) (k0_pay9 v140)
  let v320 := k0_pay11 v260
  let v440 := k0_pay15 (k0_pay13 v320) (k0_pay14 v320)
  let v500 := k0_pay16 v440
  let v620 := k0_pay20 (k0_pay18 v500) (k0_pay19 v500)
  let v679 := k0_pay22 v620
  let v680 := k0_pay23 v620
  let v800 := k0_pay27 (k0_pay25 v679 v680) (k0_pay26 v679 v680)
  let v920 := k0_pay31 (k0_pay29 v800) (k0_pay30 v800)
  let v978 := k0_pay33 v920
  let v980 := k0_pay34 v920
  let v1100 := k0_pay40 (k0_pay36 v978 v980) (k0_pay38 v978 v980) (k0_pay39 v978 v980)
  let v1157 := k0_pay42 v1100
  let v1159 := k0_pay43 v1100
  let v1160 := k0_pay44 v1100
  k0_pay87 c (k0_pay45 v1157 v1159 v1160) (k0_pay46 v1157 v1159 v1160)

/-- A panel seen as a landing slot's contents. -/
def lift (X : Vec F S1x2048x128 .bf16) : Vec F S1x1x2048x128 .bf16 :=
  shapeCast S1x1x2048x128 (shapeCast S2048x128 X shapeCasts_S1x2048x128_S2048x128) (by decide)

/-- The local merge that ends a run. -/
def merge (a : BitVec 1) (X : Vec F S1x2048x128 .bf16) : FVec F S1x2048x128 .bf16 :=
  k0_pay88 a (k0_pay54 a (k0_pay47 a X) (k0_pay48 a X)) (k0_pay55 a (k0_pay47 a X) (k0_pay48 a X))

/-- One exchange on a device: keep the smaller or the larger of the own and the received keys. -/
def comb (k : BitVec 1) (X Y : Vec F S1x2048x128 .bf16) : FVec F S1x2048x128 .bf16 := k0_pay56 k X (lift Y)

/-- What ends exchange `e` on device `c`: the local merge if the run ends, else nothing. -/
def finish (c : Dev nD) (e : ℕ) (X : Vec F S1x2048x128 .bf16) : Vec F S1x2048x128 .bf16 := if bOf e = 0 then merge (asc c e) X else X

/-- Device `c`'s rows of a panel after `n` exchanges, from the panel `x` of every device. -/
def W (x : Dev nD → Vec F S2048x128 .bf16) : ℕ → Dev nD → Vec F S1x2048x128 .bf16
  | 0, c => presort c (x c)
  | n + 1, c => finish c n (comb (keep c n) (W x n c) (W x n (peer c n)))

end Cert.Mesh

end
-- ==== Proof.Proto.lean ====
/-
# `Proto`: the protocol of the ten exchanges

Per device: one barrier cell (one round, four duties of one unit: duty `b` is paid by the device whose number differs
in bit `b`, and hands over that device's landing slots of the exchanges that flip bit `b`); per panel `i` and exchange
`e` one send cell (its one duty gives the panel's rows back, unchanged) and one receive cell (its one duty, paid by the
partner, gives the landing slot `(i, e)` holding the partner's rows of panel `i` after `e` exchanges). Nothing is ever
reused: each cell has one round.
-/
module

public import proofs.«01_k».proof.Proof.Contents
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Buffers, slots, cells -/

abbrev xM : Memref sig .tc .vmem S2048x512 .bf16 := Memref.whole cc0_stg0_0
abbrev oM : Memref sig .tc .vmem S2048x512 .f32 := Memref.whole cc0_stg1_0
abbrev wM : Memref sig .tc .vmem S4x2048x128 .bf16 := Memref.whole cc0_scratch0
abbrev pM : Memref sig .tc .vmem S4x10x2048x128 .bf16 := Memref.whole cc0_scratch1

theorem inbX : ∀ (i : Fin 4) a, (![0, 128 * i.val] : Fin 2 → ℕ) a + S2048x128.size a ≤ S2048x512.size a := by decide
theorem inbW : ∀ (i : Fin 4) a, (![i.val, 0, 0] : Fin 3 → ℕ) a + S1x2048x128.size a ≤ S4x2048x128.size a := by decide
theorem inbP : ∀ (i : Fin 4) (e : Fin 10) a, (![i.val, e.val, 0, 0] : Fin 4 → ℕ) a + S1x1x2048x128.size a ≤ S4x10x2048x128.size a := by decide

/-- Panel `i` of the input block; slot `i` of the working buffer; slot `(i, e)` of the landing buffer. -/
abbrev xr (i : Fin 4) : Rect S2048x512 := Rect.unit (s := S2048x512) ![0, 128 * i.val] S2048x128.size (inbX i)
abbrev wr (i : Fin 4) : Rect S4x2048x128 := Rect.unit (s := S4x2048x128) ![i.val, 0, 0] S1x2048x128.size (inbW i)
abbrev pr (i : Fin 4) (e : Fin 10) : Rect S4x10x2048x128 := Rect.unit (s := S4x10x2048x128) ![i.val, e.val, 0, 0] S1x1x2048x128.size (inbP i e)

/-- The slots as the transfers name them: two-dimensional. -/
abbrev wV (i : Fin 4) : Memref sig .tc .vmem S2048x128 .bf16 := (wM.slice (wr i) (fun _ => rfl)).squeeze S2048x128 squeezes_S1x2048x128_S2048x128
abbrev pV (i : Fin 4) (e : Fin 10) : Memref sig .tc .vmem S2048x128 .bf16 :=
  (pM.slice (pr i e) (fun _ => rfl)).squeeze S2048x128 squeezes_S1x1x2048x128_S2048x128

theorem wV_set (i : Fin 4) : (wV i).view.set = (wr i).set := by
  show (((View.whole cc0_scratch0).slice (wr i)).reshape _ _).set = _
  rw [View.set_reshape, View.set_slice_whole]
theorem pV_set (i : Fin 4) (e : Fin 10) : (pV i e).view.set = (pr i e).set := by
  show (((View.whole cc0_scratch1).slice (pr i e)).reshape _ _).set = _
  rw [View.set_reshape, View.set_slice_whole]

/-- The runtime's barrier semaphore; the send and receive semaphore of panel `i`, exchange `e`. -/
abbrev barS : Sem sig := (SemArray.scalar (sig.barrier 0 rfl) : Sems sig S_).sem
def sendS (i : Fin 4) (e : Fin 10) : DmaSem sig := ⟨2 + (10 * i.val + e.val), by show _ < 82; omega⟩
def recvS (i : Fin 4) (e : Fin 10) : DmaSem sig := ⟨42 + (10 * i.val + e.val), by show _ < 82; omega⟩

abbrev barCell (c : Dev nD) : GSem nD τ sig := ((c : Thread nD τ), .reg barS)
abbrev sendCell (c : Dev nD) (i : Fin 4) (e : Fin 10) : GSem nD τ sig := ((c : Thread nD τ), .dma (sendS i e))
abbrev recvCell (c : Dev nD) (i : Fin 4) (e : Fin 10) : GSem nD τ sig := ((c : Thread nD τ), .dma (recvS i e))

/-- The kernel's own (scoped) semaphores; all of the protocol's. -/
def osem (j : Fin 80) : SemLoc sig := .dma ⟨2 + j.val, by show _ < 82; omega⟩
def csem : Unit ⊕ Fin 80 → SemLoc sig := Sum.elim (fun _ => .reg barS) osem
abbrev kcell (ck : Dev nD × (Unit ⊕ Fin 80)) : GSem nD τ sig := ((ck.1 : Thread nD τ), csem ck.2)

/-- The place of a send or a receive semaphore among the own ones. -/
def sIx (i : Fin 4) (e : Fin 10) : Fin 80 := ⟨10 * i.val + e.val, by omega⟩
def rIx (i : Fin 4) (e : Fin 10) : Fin 80 := ⟨40 + (10 * i.val + e.val), by omega⟩

theorem kcell_send (c : Dev nD) (i : Fin 4) (e : Fin 10) : kcell (c, .inr (sIx i e)) = sendCell c i e := rfl
theorem kcell_recv (c : Dev nD) (i : Fin 4) (e : Fin 10) : kcell (c, .inr (rIx i e)) = recvCell c i e := by
  refine Prod.ext rfl (congrArg SemLoc.dma (Fin.ext ?_))
  show 2 + (40 + (10 * i.val + e.val)) = 42 + (10 * i.val + e.val); omega

/-- The credit of one slot's transfer. -/
def N : ℕ := (pV 0 0).view.dmaCredit
theorem N_pos : 0 < N := View.dmaCredit_pos _ (by decide)
theorem N_p (i : Fin 4) (e : Fin 10) : (pV i e).view.dmaCredit = N := rfl
theorem N_w (i : Fin 4) : (wV i).view.dmaCredit = N := rfl

/-! ## Contents -/

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Panel `i` of it. -/
def xpan (i : Fin 4) (c : Dev nD) : Vec F S2048x128 .bf16 := (xM.view.readAt (Elt F) (xr i).toLoadRect (xstg m ρ c))

/-- Panel `i` on device `c` after `n` exchanges. -/
abbrev Wk (i : Fin 4) (n : ℕ) (c : Dev nD) : Vec F S1x2048x128 .bf16 := W (xpan m ρ i) n c

/-- Device `c` owns slot `i` of its working buffer, holding `X`. -/
def wSlot (c : Dev nD) (i : Fin 4) (X : Vec F S1x2048x128 .bf16) : sProp 𝕄 :=
  iprop(∃ f : Buf (Elt F) ((c : Thread nD τ).loc cc0_scratch0), ⌜wM.view.readAt (Elt F) (wr i).toLoadRect f = X⌝ ∗ ((c : Thread nD τ).loc cc0_scratch0 ↦[(wr i).set]{fullShare} f))
/-- Slot `(i, e)` of device `c`'s landing buffer, holding `Y`. -/
def pSlot (c : Dev nD) (i : Fin 4) (e : Fin 10) (Y : Vec F S1x1x2048x128 .bf16) : sProp 𝕄 :=
  iprop(∃ f : Buf (Elt F) ((c : Thread nD τ).loc cc0_scratch1), ⌜pM.view.readAt (Elt F) (pr i e).toLoadRect f = Y⌝ ∗ ((c : Thread nD τ).loc cc0_scratch1 ↦[(pr i e).set]{fullShare} f))
/-- The same slot with any contents. -/
def pAny (c : Dev nD) (i : Fin 4) (e : Fin 10) : sProp 𝕄 :=
  iprop(∃ f : Buf (Elt F) ((c : Thread nD τ).loc cc0_scratch1), ((c : Thread nD τ).loc cc0_scratch1 ↦[(pr i e).set]{fullShare} f))

omit [FloatOps F] in
theorem pSlot_any (c : Dev nD) (i : Fin 4) (e : Fin 10) (Y : Vec F S1x1x2048x128 .bf16) : pSlot c i e Y ⊢ pAny c i e := by
  unfold pSlot pAny; iintro ⟨%f, -, H⟩; iexists f; iexact H

instance wSlot_storable (c : Dev nD) (i) (X) : BI.Storable (upEmb : UEmb _ 𝕄) (wSlot (F := F) c i X) := by unfold wSlot; infer_instance
instance pSlot_storable (c : Dev nD) (i e) (X) : BI.Storable (upEmb : UEmb _ 𝕄) (pSlot (F := F) c i e X) := by unfold pSlot; infer_instance
instance pAny_storable (c : Dev nD) (i e) : BI.Storable (upEmb : UEmb _ 𝕄) (pAny (F := F) c i e) := by unfold pAny; infer_instance

/-! ## The schedule -/

/-- The landing slots of panel `i` on device `n` that exchanges flipping bit `b` write. -/
def slotsOf (n : Dev nD) (b : Fin 4) (i : Fin 4) : sProp 𝕄 := match b with
  | 0 => iprop(pAny n i 0 ∗ pAny n i 2 ∗ pAny n i 5 ∗ pAny n i 9)
  | 1 => iprop(pAny n i 1 ∗ pAny n i 4 ∗ pAny n i 8)
  | 2 => iprop(pAny n i 3 ∗ pAny n i 7)
  | 3 => pAny n i 6
/-- What duty `b` of device `c`'s barrier cell hands over. -/
def barPay (c : Dev nD) (b : Fin 4) : sProp 𝕄 :=
  iprop(slotsOf (flip b c) b 0 ∗ slotsOf (flip b c) b 1 ∗ slotsOf (flip b c) b 2 ∗ slotsOf (flip b c) b 3)

instance slotsOf_storable (c : Dev nD) (b i) : BI.Storable (upEmb : UEmb _ 𝕄) (slotsOf (F := F) c b i) := by
  unfold slotsOf; split <;> infer_instance

def sendPay (c : Dev nD) (i : Fin 4) (e : Fin 10) : sProp 𝕄 := wSlot c i (Wk m ρ i e.val c)
def recvPay (c : Dev nD) (i : Fin 4) (e : Fin 10) : sProp 𝕄 := pSlot c i e (lift (Wk m ρ i e.val (peer c e.val)))

/-- The panel and the exchange of a semaphore, by its number counted from the first of its array. -/
def iOf (n : ℕ) : Fin 4 := ⟨n / 10 % 4, Nat.mod_lt _ (by decide)⟩
def eOf (n : ℕ) : Fin 10 := ⟨n % 10, Nat.mod_lt _ (by decide)⟩
theorem iOf_mk (i : Fin 4) (e : Fin 10) : iOf (10 * i.val + e.val) = i := Fin.ext (by show (10 * i.val + e.val) / 10 % 4 = i.val; omega)
theorem eOf_mk (i : Fin 4) (e : Fin 10) : eOf (10 * i.val + e.val) = e := Fin.ext (by show (10 * i.val + e.val) % 10 = e.val; omega)

/-- Duties, amounts and payloads: one round per cell. -/
def rd : Rounds.Schedule (GSem nD τ sig) (Fin 4) 𝕄 where
  duties g r := if r = 0 ∧ g.1.2 = .tc then (match g.2 with | .reg _ => Finset.univ | .dma s => if 2 ≤ s.val then {0} else ∅) else ∅
  unitless _ := False
  amount g _ _ := match g.2 with | .reg _ => 1 | .dma _ => N
  payload g _ d := match g.2 with
    | .reg _ => barPay g.1.1 d
    | .dma s => if s.val < 42 then sendPay m ρ g.1.1 (iOf (s.val - 2)) (eOf (s.val - 2)) else recvPay m ρ g.1.1 (iOf (s.val - 42)) (eOf (s.val - 42))
  amount_pos g _ _ _ := by
    rcases g with ⟨t, s | s⟩
    · exact Nat.one_pos
    · exact N_pos

instance rd_payload_storable (g : GSem nD τ sig) (r : ℕ) (d : Fin 4) :
    BI.Storable (upEmb : UEmb _ 𝕄) ((rd (F := F) m ρ).payload g r d) := by
  rcases g with ⟨t, s | s⟩
  · show BI.Storable upEmb (barPay t.1 d); unfold barPay; infer_instance
  · show BI.Storable upEmb (if s.val < 42 then sendPay m ρ t.1 _ _ else recvPay m ρ t.1 _ _)
    unfold sendPay recvPay
    split <;> infer_instance

section Sched
variable (c : Dev nD) (i : Fin 4) (e : Fin 10)

theorem duties_bar : (rd (F := F) m ρ).duties (barCell c) 0 = Finset.univ := by dsimp only [rd]; exact if_pos ⟨rfl, rfl⟩
theorem duties_send : (rd (F := F) m ρ).duties (sendCell c i e) 0 = {0} := by
  dsimp only [rd]; rw [if_pos ⟨rfl, rfl⟩]; exact if_pos (by show 2 ≤ 2 + (10 * i.val + e.val); omega)
theorem duties_recv : (rd (F := F) m ρ).duties (recvCell c i e) 0 = {0} := by
  dsimp only [rd]; rw [if_pos ⟨rfl, rfl⟩]; exact if_pos (by show 2 ≤ 42 + (10 * i.val + e.val); omega)
theorem duties_later (g : GSem nD τ sig) : ∀ r, 1 ≤ r → (rd (F := F) m ρ).duties g r = ∅ :=
  fun r hr => by dsimp only [rd]; exact if_neg fun h => by omega

theorem amount_bar (d : Fin 4) : (rd (F := F) m ρ).amount (barCell c) 0 d = 1 := rfl
theorem amount_send (d : Fin 4) : (rd (F := F) m ρ).amount (sendCell c i e) 0 d = N := rfl
theorem amount_recv (d : Fin 4) : (rd (F := F) m ρ).amount (recvCell c i e) 0 d = N := rfl

theorem expect_bar : (rd (F := F) m ρ).expect (barCell c) 0 = 4 := by
  unfold Schedule.expect Schedule.amountOf
  rw [duties_bar, Finset.sum_congr rfl fun d _ => amount_bar m ρ c d]; rfl
theorem expect_send : (rd (F := F) m ρ).expect (sendCell c i e) 0 = N := by
  unfold Schedule.expect Schedule.amountOf; rw [duties_send, Finset.sum_singleton, amount_send]
theorem expect_recv : (rd (F := F) m ρ).expect (recvCell c i e) 0 = N := by
  unfold Schedule.expect Schedule.amountOf; rw [duties_recv, Finset.sum_singleton, amount_recv]

theorem payload_bar (d : Fin 4) : (rd (F := F) m ρ).payload (barCell c) 0 d = barPay c d := rfl
theorem payload_send (d : Fin 4) : (rd (F := F) m ρ).payload (sendCell c i e) 0 d = sendPay m ρ c i e := by
  show (if 2 + (10 * i.val + e.val) < 42 then sendPay m ρ c (iOf (2 + (10 * i.val + e.val) - 2)) (eOf (2 + (10 * i.val + e.val) - 2)) else _) = _
  rw [if_pos (by omega), Nat.add_sub_cancel_left, iOf_mk, eOf_mk]
theorem payload_recv (d : Fin 4) : (rd (F := F) m ρ).payload (recvCell c i e) 0 d = recvPay m ρ c i e := by
  show (if 42 + (10 * i.val + e.val) < 42 then _ else recvPay m ρ c (iOf (42 + (10 * i.val + e.val) - 42)) (eOf (42 + (10 * i.val + e.val) - 42))) = _
  rw [if_neg (by omega), Nat.add_sub_cancel_left, iOf_mk, eOf_mk]

/-- What a wait for the whole round of a cell brings. -/
theorem rest_bar : bigSep ((rd (F := F) m ρ).duties (barCell c) 0 \ ∅) (fun d => (rd (F := F) m ρ).payload (barCell c) 0 d)
    = iprop(barPay c 0 ∗ barPay c 1 ∗ barPay c 2 ∗ barPay c 3) := by
  rw [Finset.sdiff_empty, duties_bar, bigSep_univ_eq_bigSepL [0, 1, 2, 3] (by decide) (by decide)]; rfl
theorem rest_send : bigSep ((rd (F := F) m ρ).duties (sendCell c i e) 0 \ ∅) (fun d => (rd (F := F) m ρ).payload (sendCell c i e) 0 d) = sendPay m ρ c i e := by
  rw [Finset.sdiff_empty, duties_send, bigSep_singleton, payload_send]
theorem rest_recv : bigSep ((rd (F := F) m ρ).duties (recvCell c i e) 0 \ ∅) (fun d => (rd (F := F) m ρ).payload (recvCell c i e) 0 d) = recvPay m ρ c i e := by
  rw [Finset.sdiff_empty, duties_recv, bigSep_singleton, payload_recv]

end Sched

/-! ## What a device owes; the levels -/

/-- What device `c` still owes of panel `i` when its last `k` transfers are outstanding. -/
def remO (c : Dev nD) (i : Fin 4) : ℕ → CellTallies nD τ sig Unit
  | 0 => 0
  | k + 1 => remO c i k + tallyAt (recvCell (peer c (9 - k)) i (ex (9 - k))) () N

/-- The same over the four panels. -/
def rem (c : Dev nD) (n : Fin 4 → ℕ) : CellTallies nD τ sig Unit := remO c 0 (n 0) + remO c 1 (n 1) + remO c 2 (n 2) + remO c 3 (n 3)

/-- One transfer's share of it. -/
theorem rem_step (c : Dev nD) (n n' : Fin 4 → ℕ) (i : Fin 4) (k : ℕ) (h : n i = k + 1) (h' : n' i = k) (hne : ∀ j, j ≠ i → n' j = n j) :
    rem c n = rem c n' + tallyAt (recvCell (peer c (9 - k)) i (ex (9 - k))) () N := by
  obtain rfl | rfl | rfl | rfl : i = 0 ∨ i = 1 ∨ i = 2 ∨ i = 3 := by clear hne h h'; revert i; decide
  · unfold rem; rw [h, h', hne 1 (by decide), hne 2 (by decide), hne 3 (by decide), remO, add_right_comm _ _ (remO c 1 _),
      add_right_comm _ _ (remO c 2 _), add_right_comm _ _ (remO c 3 _)]
  · unfold rem; rw [h, h', hne 0 (by decide), hne 2 (by decide), hne 3 (by decide), remO, ← add_assoc, add_right_comm _ _ (remO c 2 _),
      add_right_comm _ _ (remO c 3 _)]
  · unfold rem; rw [h, h', hne 0 (by decide), hne 1 (by decide), hne 3 (by decide), remO, ← add_assoc, add_right_comm _ _ (remO c 3 _)]
  · unfold rem; rw [h, h', hne 0 (by decide), hne 1 (by decide), hne 2 (by decide), remO, ← add_assoc]

/-- At launch: everything, then the four signals in the order they are given. -/
def O4 (c : Dev nD) : CellTallies nD τ sig Unit := rem c fun _ => 10
def O3 (c : Dev nD) : CellTallies nD τ sig Unit := O4 c + tallyAt (barCell (flip 3 c)) () 1
def O2 (c : Dev nD) : CellTallies nD τ sig Unit := O3 c + tallyAt (barCell (flip 2 c)) () 1
def O1 (c : Dev nD) : CellTallies nD τ sig Unit := O2 c + tallyAt (barCell (flip 1 c)) () 1
def O₀ (c : Dev nD) : CellTallies nD τ sig Unit := O1 c + tallyAt (barCell (flip 0 c)) () 1

def L (g : GSem nD τ sig) : Finset Unit := if g.1.2 = .tc then {()} else ∅
/-- Staging and send cells at 0, barrier cells at 1, the receive cell of panel `i`, exchange `e` at `2 + (i + e)`. -/
def lv (g : GSem nD τ sig) (_ : Unit) : ℕ := match g.2 with
  | .reg _ => 1
  | .dma s => if s.val < 42 then 0 else 2 + ((iOf (s.val - 42)).val + (eOf (s.val - 42)).val)

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Fin 4) (e : Fin 10) (u : Unit) : lv (recvCell c i e) u = 2 + (i.val + e.val) := by
  show (if 42 + (10 * i.val + e.val) < 42 then 0 else 2 + ((iOf (42 + (10 * i.val + e.val) - 42)).val + (eOf (42 + (10 * i.val + e.val) - 42)).val)) = _
  rw [if_neg (by omega), Nat.add_sub_cancel_left, iOf_mk, eOf_mk]
theorem lv_bar (c : Dev nD) (u : Unit) : lv (barCell c) u = 1 := rfl

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

theorem remO_pos {c : Dev nD} {i : Fin 4} {g : GSem nD τ sig} {u : Unit} : ∀ {k : ℕ}, 0 < remO c i k g u →
    ∃ e : Fin 10, 10 ≤ e.val + k ∧ g = recvCell (peer c e.val) i e
  | 0, h => absurd h (Nat.lt_irrefl 0)
  | k + 1, h => by
    rcases add_pos_cases h with h | h
    · obtain ⟨e, he, hg⟩ := remO_pos h; exact ⟨e, by omega, hg⟩
    · refine ⟨ex (9 - k), ?_, ?_⟩
      · rw [ex_val (by omega)]; omega
      · rw [ex_val (by omega)]; exact tally_pos h

theorem rem_pos {c : Dev nD} {n : Fin 4 → ℕ} {g : GSem nD τ sig} {u : Unit} (h : 0 < rem c n g u) :
    ∃ (i : Fin 4) (e : Fin 10), 10 ≤ e.val + n i ∧ g = recvCell (peer c e.val) i e := by
  rcases add_pos_cases h with h | h
  · rcases add_pos_cases h with h | h
    · rcases add_pos_cases h with h | h
      · exact ⟨0, remO_pos h⟩
      · exact ⟨1, remO_pos h⟩
    · exact ⟨2, remO_pos h⟩
  · exact ⟨3, remO_pos h⟩

theorem O₀_pos {c : Dev nD} {g : GSem nD τ sig} {u : Unit} (h : 0 < O₀ c g u) :
    (∃ b, g = barCell (flip b c)) ∨ ∃ (i : Fin 4) (e : Fin 10), g = recvCell (peer c e.val) i e := by
  rcases add_pos_cases h with h | h
  · rcases add_pos_cases h with h | h
    · rcases add_pos_cases h with h | h
      · rcases add_pos_cases h with h | h
        · obtain ⟨i, e, -, hg⟩ := rem_pos h; exact .inr ⟨i, e, hg⟩
        · exact .inl ⟨3, tally_pos h⟩
      · exact .inl ⟨2, tally_pos h⟩
    · exact .inl ⟨1, tally_pos h⟩
  · exact .inl ⟨0, tally_pos h⟩

/-- A wait on a cell whose level is below everything the device still owes is allowed. -/
theorem mayWait_of (c : Dev nD) (sm : SemLoc sig) (O : CellTallies nD τ sig Unit) (k : ℕ)
    (hk : lv ((c : Thread nD τ), sm) () ≤ k)
    (hO : ∀ g u, 0 < O g u → ∃ d : Dev nD, ∃ s, g = ((d : Thread nD τ), s) ∧ k < lv g u) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by obtain ⟨d, s, rfl, -⟩ := hO g u hg; rw [L_tc]; exact Finset.mem_singleton_self _)
    (fun p hp => by rw [Finset.mem_singleton.mp hp]; exact hk)
    (fun g u hg => by obtain ⟨d, s, -, h⟩ := hO g u hg; exact h)

/-- Staging waits: below everything. -/
theorem mayWait_stage (c : Dev nD) (q : DmaSem sig) (hq : q.val < 42) (O : CellTallies nD τ sig Unit) (hO : O = O₀ c ∨ O = 0) :
    (levAts L lv : sProp 𝕄) ⊢ MayWait (c : Thread nD τ) (.dma q) () O := by
  rcases hO with rfl | rfl
  · refine mayWait_of c _ _ 0 (by show (if q.val < 42 then 0 else _) ≤ 0; rw [if_pos hq]) fun g u hg => ?_
    rcases O₀_pos hg with ⟨b, rfl⟩ | ⟨i, e, rfl⟩
    · exact ⟨_, _, rfl, by rw [lv_bar]; omega⟩
    · exact ⟨_, _, rfl, by rw [lv_recv]; omega⟩
  · rw [MayWait_zero]; iintro -; iempintro

/-- The barrier wait: below every receive cell. -/
theorem mayWait_bar (c : Dev nD) : (levAts L lv : sProp 𝕄) ⊢ MayWait (c : Thread nD τ) (.reg barS) () (O4 c) :=
  mayWait_of c _ _ 1 (le_of_eq (lv_bar c ())) fun g u hg => by
    obtain ⟨i, e, -, rfl⟩ := rem_pos hg; exact ⟨_, _, rfl, by rw [lv_recv]; omega⟩

/-- A wait on a send cell. -/
theorem mayWait_send (c : Dev nD) (i : Fin 4) (e : Fin 10) (n : Fin 4 → ℕ) :
    (levAts L lv : sProp 𝕄) ⊢ MayWait (c : Thread nD τ) (.dma (sendS i e)) () (rem c n) :=
  mayWait_of c _ _ 0 (by show (if 2 + (10 * i.val + e.val) < 42 then 0 else _) ≤ 0; rw [if_pos (by omega)]) fun g u hg => by
    obtain ⟨i, e, -, rfl⟩ := rem_pos hg; exact ⟨_, _, rfl, by rw [lv_recv]; omega⟩

/-- A wait on a receive cell, when all that is still owed is on later diagonals. -/
theorem mayWait_recv (c : Dev nD) (i : Fin 4) (e : Fin 10) (n : Fin 4 → ℕ) (hn : ∀ j : Fin 4, 0 < n j → i.val + e.val + n j < 10 + j.val) :
    (levAts L lv : sProp 𝕄) ⊢ MayWait (c : Thread nD τ) (.dma (recvS i e)) () (rem c n) :=
  mayWait_of c _ _ (2 + (i.val + e.val)) (le_of_eq (lv_recv c i e ())) fun g u hg => by
    obtain ⟨i', e', he, rfl⟩ := rem_pos hg
    exact ⟨_, _, rfl, by rw [lv_recv]; have := hn i' (by omega); omega⟩

end Cert.Mesh

end
-- ==== Proof.Steps.lean ====
/-
# `Steps`: one operation of the kernel at a time

Each lemma takes one effect of the kernel's body — a load, a store, a transfer, a wait — from what the protocol says
must be held before it to what is held after it.
-/
module

public import proofs.«01_k».proof.Proof.Proto

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c` runs from the resources at hand to `Q`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The shared records -/

/-- Every cell's invariant, and that every cell has reached its round. -/
def recs (K : Dev nD × (Unit ⊕ Fin 80) → ℕ) : sProp 𝕄 :=
  iprop((bigSep Finset.univ fun ck : Dev nD × (Unit ⊕ Fin 80) => cellInv ER (rd m ρ) (K ck) (kcell ck))
    ∗ bigSep Finset.univ fun ck : Dev nD × (Unit ⊕ Fin 80) => reached ER (kcell ck) 0)

instance recs_persistent (K : Dev nD × (Unit ⊕ Fin 80) → ℕ) : BI.Persistent (recs (F := F) m ρ K) := by unfold recs; infer_instance

variable (K : Dev nD × (Unit ⊕ Fin 80) → ℕ)

theorem inv_at (ck : Dev nD × (Unit ⊕ Fin 80)) : recs m ρ K ⊢ cellInv ER (rd m ρ) (K ck) (kcell ck) := by
  unfold recs
  exact (Idealize.SL.BI.sep_and.trans Idealize.SL.BI.and_elimL).trans (bigSep_elim (Φ := fun ck : Dev nD × (Unit ⊕ Fin 80) => (cellInv ER (rd m ρ) (K ck) (kcell ck) : sProp 𝕄)) (Finset.mem_univ ck))
theorem reached_at (ck : Dev nD × (Unit ⊕ Fin 80)) : recs m ρ K ⊢ (reached ER (kcell ck) 0 : sProp 𝕄) := by
  unfold recs
  exact (Idealize.SL.BI.sep_and.trans Idealize.SL.BI.and_elimR).trans (bigSep_elim (Φ := fun ck : Dev nD × (Unit ⊕ Fin 80) => (reached ER (kcell ck) 0 : sProp 𝕄)) (Finset.mem_univ ck))
theorem inv_send (c : Dev nD) (i : Fin 4) (e : Fin 10) : recs m ρ K ⊢ cellInv ER (rd m ρ) (K (c, .inr (sIx i e))) ((c : Thread nD τ), .dma (sendS i e)) :=
  inv_at m ρ K (c, .inr (sIx i e))
theorem inv_recv (c : Dev nD) (i : Fin 4) (e : Fin 10) : recs m ρ K ⊢ cellInv ER (rd m ρ) (K (c, .inr (rIx i e))) ((c : Thread nD τ), .dma (recvS i e)) :=
  (inv_at m ρ K (c, .inr (rIx i e))).trans (Entails.of_eq (congrArg (cellInv ER (rd m ρ) (K (c, .inr (rIx i e)))) (kcell_recv c i e)))
theorem reached_send (c : Dev nD) (i : Fin 4) (e : Fin 10) : recs m ρ K ⊢ (reached ER ((c : Thread nD τ), .dma (sendS i e)) 0 : sProp 𝕄) :=
  reached_at m ρ K (c, .inr (sIx i e))
theorem reached_recv (c : Dev nD) (i : Fin 4) (e : Fin 10) : recs m ρ K ⊢ (reached ER ((c : Thread nD τ), .dma (recvS i e)) 0 : sProp 𝕄) :=
  (reached_at m ρ K (c, .inr (rIx i e))).trans (Entails.of_eq (congrArg (fun g => (reached ER g 0 : sProp 𝕄)) (kcell_recv c i e)))

/-- What device `c` owes, with whatever record of its past waits. -/
def owesE (c : Dev nD) (O : CellTallies nD τ sig Unit) : sProp 𝕄 := iprop(∃ Wt, owes (c : Thread nD τ) O Wt)

/-! ## Loads and stores of slots -/

section Slots
variable {α : Type} (c : Dev nD) (i : Fin 4) (e : Fin 10)

theorem access_w_set : (wM.access (wr i) : View sig .tc _ _ _).set = (wr i).set := by
  show ((View.whole cc0_scratch0).slice (wr i)).set = _; rw [View.set_slice_whole]
theorem access_p_set : (pM.access (pr i e) : View sig .tc _ _ _).set = (pr i e).set := by
  show ((View.whole cc0_scratch1).slice (pr i e)).set = _; rw [View.set_slice_whole]

/-- Loading a whole slot of the working buffer reads its contents. -/
theorem load_w (Q : α → sProp 𝕄) (off : Fin 3 → ℕ) (ho : off = ![i.val, 0, 0]) (inb : ∀ a, off a + S1x2048x128.size a ≤ S4x2048x128.size a)
    {hl} (X : Vec F S1x2048x128 .bf16) {k : Vec F S1x2048x128 .bf16 → Prog (TpuEff nD τ sig (Elt F) Λ₀ .tc) α} :
    wSlot c i X ⊢ iprop((wSlot c i X -∗ wpc c (k X) Q)
      -∗ wpc c (.op (.load wM (Rect.unit (s := S4x2048x128) off S1x2048x128.size inb).toLoadRect hl) k) Q) := by
  subst ho
  unfold wSlot
  iintro ⟨%f, %hf, Hw⟩ Hk
  iapply (wp_load_rect 𝒱₀ (c : Thread nD τ) none Set.univ (m := wM) (r := wr i) (by rw [access_w_set])) $$ Hw
  iintro Hw
  have : (wM.access (wr i) : View sig .tc _ _ _).read (Elt F) f = X := hf
  rw [this]
  iapply Hk
  iexists f; isplitr; · ipureintro; exact hf
  iexact Hw

/-- Loading a whole landing slot reads its contents. -/
theorem load_p (Q : α → sProp 𝕄) (off : Fin 4 → ℕ) (ho : off = ![i.val, e.val, 0, 0]) (inb : ∀ a, off a + S1x1x2048x128.size a ≤ S4x10x2048x128.size a)
    {hl} (X : Vec F S1x1x2048x128 .bf16) {k : Vec F S1x1x2048x128 .bf16 → Prog (TpuEff nD τ sig (Elt F) Λ₀ .tc) α} :
    pSlot c i e X ⊢ iprop((pSlot c i e X -∗ wpc c (k X) Q)
      -∗ wpc c (.op (.load pM (Rect.unit (s := S4x10x2048x128) off S1x1x2048x128.size inb).toLoadRect hl) k) Q) := by
  subst ho
  unfold pSlot
  iintro ⟨%f, %hf, Hw⟩ Hk
  iapply (wp_load_rect 𝒱₀ (c : Thread nD τ) none Set.univ (m := pM) (r := pr i e) (by rw [access_p_set])) $$ Hw
  iintro Hw
  have : (pM.access (pr i e) : View sig .tc _ _ _).read (Elt F) f = X := hf
  rw [this]
  iapply Hk
  iexists f; isplitr; · ipureintro; exact hf
  iexact Hw

/-- Storing a whole slot of the working buffer leaves the stored contents. -/
theorem store_w (Q : α → sProp 𝕄) (off : Fin 3 → ℕ) (ho : off = ![i.val, 0, 0]) (inb : ∀ a, off a + S1x2048x128.size a ≤ S4x2048x128.size a)
    {hx hm} (X Y : Vec F S1x2048x128 .bf16) {k : PUnit → Prog (TpuEff nD τ sig (Elt F) Λ₀ .tc) α} :
    wSlot c i X ⊢ iprop((wSlot c i Y -∗ wpc c (k ⟨⟩) Q)
      -∗ wpc c (.op (.store wM (Rect.unit (s := S4x2048x128) off S1x2048x128.size inb) Y Finset.univ hx hm) k) Q) := by
  subst ho
  unfold wSlot
  iintro ⟨%f, %hf, Hw⟩ Hk
  iapply (wp_store 𝒱₀ (c : Thread nD τ) none Set.univ (m := wM) (r := wr i) (w := Y) (Mk := Finset.univ) (by rw [View.setOn_univ, access_w_set])) $$ Hw
  iintro Hw
  iapply Hk
  iexists _; isplitr
  · ipureintro
    exact View.read_write_univ (v := (wM.access (wr i) : View sig .tc _ _ _)) f Y
  iexact Hw

end Slots

/-! ## Transfers -/

/-- A slot written by a transfer holds the source slot's contents. -/
theorem landing (i : Fin 4) (e : Fin 10) (fs : (cc0_scratch0 : Ref sig .tc).ty.Contents (Elt F)) (fd : (cc0_scratch1 : Ref sig .tc).ty.Contents (Elt F)) :
    pM.view.readAt (Elt F) (pr i e).toLoadRect ((pV i e).view.write (Elt F) fd ((wV i).view.read (Elt F) fs) Finset.univ)
      = lift (wM.view.readAt (Elt F) (wr i).toLoadRect fs) := by
  funext y
  have hn : S1x1x2048x128.numel = S2048x128.numel := by decide
  obtain ⟨x, hx⟩ : ∃ x, Shape.reshapeEquiv (s := S1x1x2048x128) (s' := S2048x128) hn.symm x = y :=
    ⟨(Shape.reshapeEquiv hn.symm).symm y, Equiv.apply_symm_apply _ _⟩
  subst hx
  have h := View.read_write_reshape (Val := Elt F) (v := (pM.slice (pr i e) (fun _ => rfl)).view) (s' := S2048x128) hn.symm fd ((wV i).view.read (Elt F) fs) x
  refine Eq.trans h ?_
  show (wV i).view.read (Elt F) fs x = lift _ _
  unfold lift shapeCast
  have hr : Shape.reshapeEquiv (s := S2048x128) (s' := S1x1x2048x128) (by decide) (Shape.reshapeEquiv hn.symm x) = x := by
    rw [Shape.reshapeEquiv_reshapeEquiv, Shape.reshapeEquiv_self]
  rw [hr]; rfl

section Xfer
variable {α : Type} (c : Dev nD) (i : Fin 4) (e : Fin 10)

/-- Starting the transfer of panel `i`, exchange `e`: the slot and the partner's landing slot go, the credit of the own
    send cell comes, and what is owed shrinks by the partner's receive cell. -/
theorem send_step (Q : α → sProp 𝕄) (n : Dev nD) (hn : n = peer c e.val) (offw : Fin 3 → ℕ) (how : offw = ![i.val, 0, 0]) (inbw : ∀ a, offw a + S1x2048x128.size a ≤ S4x2048x128.size a)
    (offp : Fin 4 → ℕ) (hop : offp = ![i.val, e.val, 0, 0]) (inbp : ∀ a, offp a + S1x1x2048x128.size a ≤ S4x10x2048x128.size a)
    (s1 s2 : DmaSem sig) (h1 : s1 = sendS i e) (h2 : s2 = recvS i e) (O O' : CellTallies nD τ sig Unit)
    (hO : O = O' + tallyAt (recvCell (peer c e.val) i e) () N)
    {hsc hsrc hdst hsem} {k : PUnit → Prog (TpuEff nD τ sig (Elt F) Λ₀ .tc) α} :
    iprop(recs m ρ K ∗ wSlot c i (Wk m ρ i e.val c) ∗ pAny (peer c e.val) i e ∗ owesE c O
        ∗ dutyTok ER (sendCell c i e) 0 0 ∗ dutyTok ER (recvCell (peer c e.val) i e) 0 0)
      ⊢ iprop(((cred (tallyAt (sendCell c i e) () N) ∗ owesE c O') -∗ wpc c (k ⟨⟩) Q)
        -∗ wpc c (.op (.enqueueDma ((wM.slice (Rect.unit (s := S4x2048x128) offw S1x2048x128.size inbw) (fun _ => rfl)).squeeze S2048x128 squeezes_S1x2048x128_S2048x128)
            (.remote (Dev.tc n : Thread nD τ) ((pM.slice (Rect.unit (s := S4x10x2048x128) offp S1x1x2048x128.size inbp) (fun _ => rfl)).squeeze S2048x128 squeezes_S1x1x2048x128_S2048x128) (.dma s1) hsc)
            (.dma s2) hsrc hdst hsem) k) Q) := by
  subst hn how hop h1 h2
  unfold owesE
  iintro ⟨#HR, Hw, Hp, ⟨%Wt, HO⟩, Ht1, Ht2⟩ Hk
  unfold wSlot pAny
  icases Hw with ⟨%fs, %hfs, Hw⟩
  icases Hp with ⟨%fd, Hp⟩
  iapply (Rounds.wp_send_pointsTo 𝒱₀ ER (rd m ρ) (c : Thread nD τ) none (c' := ((peer c e.val : Dev nD) : Thread nD τ)) (src := wV i) (dst := pV i e) (κ₁ := K (c, .inr (sIx i e))) (κ₂ := K (peer c e.val, .inr (rIx i e)))
    (r₁ := 0) (r₂ := 0) (d₁ := 0) (d₂ := 0) (fs := fs) (fd := fd) (q := fullShare)
    (by rw [duties_send]; exact Finset.mem_singleton_self _) (by rw [duties_recv]; exact Finset.mem_singleton_self _)
    () () N rfl (amount_send m ρ c i e 0) (amount_recv m ρ (peer c e.val) i e 0) O' hO (W := Wt)
    (by
      rw [payload_send]; unfold sendPay wSlot; rw [wV_set]
      iintro H; iexists fs; isplitr; · ipureintro; exact hfs
      iexact H)
    (by
      rw [payload_recv]; unfold recvPay pSlot; rw [pV_set]
      iintro H; iexists _; isplitr; · ipureintro; exact (landing i e fs fd).trans (by rw [hfs, peer_peer])
      iexact H)) $$ [Hw Hp HO Ht1 Ht2]
  · isplitr; · iapply (inv_send m ρ K c i e); iexact HR
    isplitr; · iapply (inv_recv m ρ K (peer c e.val) i e); iexact HR
    isplitl [Hw]; · rw [wV_set]; iexact Hw
    isplitl [Hp]; · rw [pV_set]; iexact Hp
    isplitl [HO]; · iexact HO
    isplitl [Ht1]; · iexact Ht1
    isplitr; · iapply (reached_send m ρ K c i e); iexact HR
    isplitl [Ht2]; · iexact Ht2
    iapply (reached_recv m ρ K (peer c e.val) i e); iexact HR
  iintro ⟨Hc, HO⟩
  iapply Hk
  isplitl [Hc]; · iexact Hc
  iexists Wt; iexact HO

/-- Waiting for the own transfer to have left: the slot is back, and the send cell is closed. -/
theorem wait_send (Q : α → sProp 𝕄) (n : Fin 4 → ℕ) (s1 : DmaSem sig) (h1 : s1 = sendS i e)
    {s : Shape} {sp : Space} {el : EltTy} {src : Memref sig .tc sp s el} {s' : Shape} {sp' : Space} {el' : EltTy} {dst : Memref sig .tc sp' s' el'}
    (hN : dst.view.dmaCredit = N) {hsrc hdst} {k : PUnit → Prog (TpuEff nD τ sig (Elt F) Λ₀ .tc) α} :
    iprop(recs m ρ K ∗ levAts L lv ∗ cred (tallyAt (sendCell c i e) () N) ∗ owesE c (rem c n) ∗ atPos ER (sendCell c i e) 0 ∅ 0)
      ⊢ iprop(((owesE c (rem c n) ∗ semVal (sendCell c i e) 0 ∗ wSlot c i (Wk m ρ i e.val c)) -∗ wpc c (k ⟨⟩) Q)
        -∗ wpc c (.op (.waitDma2 s1 src dst hsrc hdst) k) Q) := by
  subst h1
  unfold owesE
  iintro ⟨#HR, #Hlev, Hc, ⟨%Wt, HO⟩, Hat⟩ Hk
  iapply (Rounds.wp_wait_rest_token 𝒱₀ ER (rd m ρ) (c : Thread nD τ) none (κ := K (c, .inr (sIx i e)))
      (wpE_waitDma2_eq 𝒱₀ (c : Thread nD τ) none Set.univ) (Set.mem_univ _) () (O := rem c n) (W := Wt) (R := 0) (m := 0) (T := ∅)
      (by rw [Nat.zero_add, hN, expect_send])) $$ [Hc HO Hat]
  · isplitr; · iapply (inv_send m ρ K c i e); iexact HR
    isplitl [Hc]; · rw [hN]; iexact Hc
    isplitl [HO]; · iexact HO
    isplitr; · iapply (mayWait_send c i e n); iexact Hlev
    iexact Hat
  iintro ⟨HO, Hat, -, Hpay⟩
  ihave Hw := (Entails.of_eq (rest_send m ρ c i e)) $$ Hpay
  imod (Rounds.cell_close ER (rd m ρ) (Set.mem_univ (K (c, .inr (sIx i e)))) (fun h => h) (R := 0 + 1) (duties_later m ρ (sendCell c i e))) $$ [Hat] with Hz
  · isplitr; · iapply (inv_send m ρ K c i e); iexact HR
    iexact Hat
  iapply Hk
  isplitl [HO]; · iexists _; iexact HO
  isplitl [Hz]; · iexact Hz
  unfold sendPay; iexact Hw

/-- Waiting for the partner's rows: the landing slot holds them, and the receive cell is closed. -/
theorem wait_recv (Q : α → sProp 𝕄) (n : Fin 4 → ℕ) (hn : ∀ j : Fin 4, 0 < n j → i.val + e.val + n j < 10 + j.val) (s2 : DmaSem sig) (h2 : s2 = recvS i e)
    {s : Shape} {sp : Space} {el : EltTy} {src : Memref sig .tc sp s el} {s' : Shape} {sp' : Space} {el' : EltTy} {dst : Memref sig .tc sp' s' el'}
    (hN : dst.view.dmaCredit = N) {hsrc hdst} {k : PUnit → Prog (TpuEff nD τ sig (Elt F) Λ₀ .tc) α} :
    iprop(recs m ρ K ∗ levAts L lv ∗ cred (tallyAt (recvCell c i e) () N) ∗ owesE c (rem c n) ∗ atPos ER (recvCell c i e) 0 ∅ 0)
      ⊢ iprop(((owesE c (rem c n) ∗ semVal (recvCell c i e) 0 ∗ pSlot c i e (lift (Wk m ρ i e.val (peer c e.val)))) -∗ wpc c (k ⟨⟩) Q)
        -∗ wpc c (.op (.waitDma2 s2 src dst hsrc hdst) k) Q) := by
  subst h2
  unfold owesE
  iintro ⟨#HR, #Hlev, Hc, ⟨%Wt, HO⟩, Hat⟩ Hk
  iapply (Rounds.wp_wait_rest_token 𝒱₀ ER (rd m ρ) (c : Thread nD τ) none (κ := K (c, .inr (rIx i e)))
      (wpE_waitDma2_eq 𝒱₀ (c : Thread nD τ) none Set.univ) (Set.mem_univ _) () (O := rem c n) (W := Wt) (R := 0) (m := 0) (T := ∅)
      (by rw [Nat.zero_add, hN, expect_recv])) $$ [Hc HO Hat]
  · isplitr; · iapply (inv_recv m ρ K c i e); iexact HR
    isplitl [Hc]; · rw [hN]; iexact Hc
    isplitl [HO]; · iexact HO
    isplitr; · iapply (mayWait_recv c i e n hn); iexact Hlev
    iexact Hat
  iintro ⟨HO, Hat, -, Hpay⟩
  ihave Hw := (Entails.of_eq (rest_recv m ρ c i e)) $$ Hpay
  imod (Rounds.cell_close ER (rd m ρ) (Set.mem_univ (K (c, .inr (rIx i e)))) (fun h => h) (R := 0 + 1) (duties_later m ρ (recvCell c i e))) $$ [Hat] with Hz
  · isplitr; · iapply (inv_recv m ρ K c i e); iexact HR
    iexact Hat
  iapply Hk
  isplitl [HO]; · iexists _; iexact HO
  isplitl [Hz]; · iexact Hz
  unfold recvPay; iexact Hw

end Xfer

end Cert.Mesh

end
-- ==== Proof.Exchange.lean ====
/-
# `Exchange`: one exchange of one panel

The second loop's trips do, for each of the four panels, at most one exchange: wait for the own transfer and for the
partner's rows, keep the smaller or the larger keys, merge if the run ends here, and start the next transfer. This is
that program once, at any panel and exchange, and what it takes to what.
-/
module

public import proofs.«01_k».proof.Proof.Steps

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Pg" => Prog (TpuEff nD τ sig (Elt F) Λ₀ Proc.tc)

variable (m : (ℓ : Loc nD τ sig) → Buf (Elt F) ℓ) (ρ : Dev nD → PrngReg) (K : Dev nD × (Unit ⊕ Fin 80) → ℕ)

/-! ## The program -/

/-- A landing slot at computed offsets. -/
abbrev pAt (off : Fin 4 → ℕ) (inb : ∀ a, off a + S1x1x2048x128.size a ≤ S4x10x2048x128.size a) : Memref sig .tc .vmem S2048x128 .bf16 :=
  (pM.slice (Rect.unit (s := S4x10x2048x128) off S1x1x2048x128.size inb) (fun _ => rfl)).squeeze S2048x128 squeezes_S1x1x2048x128_S2048x128

/-- Two transfers waited for, the smaller or larger keys kept, the run ended if `v` says so, `next` if `C` holds, then `R`. -/
def exch (i : Fin 4) (hW : (wV i).view.WordExact) (hS : (wM.access (wr i)).Stores Finset.univ)
    (off off' : Fin 4 → ℕ) (inb : ∀ a, off a + S1x1x2048x128.size a ≤ S4x10x2048x128.size a) (inb' : ∀ a, off' a + S1x1x2048x128.size a ≤ S4x10x2048x128.size a)
    (hP : (pAt off inb).view.WordExact) (s1 s2 : DmaSem sig) (a k v : BitVec 1) (C : Prop) [Decidable C] (next : C → Pg Unit) (R : Pg Unit) : Pg Unit := do
  Prog.lift (.waitDma2 s1 (pAt off inb) (wV i) hP hW)
  Prog.lift (.waitDma2 s2 (wV i) (pAt off inb) hW hP)
  let x : Vec F S1x2048x128 .bf16 ← Prog.lift (.load wM (wr i).toLoadRect (View.loadsAt_vmem h_S1x2048x128))
  let y : Vec F S1x1x2048x128 .bf16 ← Prog.lift (.load pM (Rect.unit (s := S4x10x2048x128) off' S1x1x2048x128.size inb').toLoadRect (View.loadsAt_vmem h_S1x1x2048x128))
  let _ : Vec F S1x2048x128 .bf16 ← Prog.lift (.load wM (wr i).toLoadRect (View.loadsAt_vmem h_S1x2048x128))
  Prog.lift (.store wM (wr i) (k0_pay56 k x y) Finset.univ hS (.inl rfl))
  if _h : v = 1#1 then do
    let z : Vec F S1x2048x128 .bf16 ← Prog.lift (.load wM (wr i).toLoadRect (View.loadsAt_vmem h_S1x2048x128))
    let _ : Vec F S1x2048x128 .bf16 ← Prog.lift (.load wM (wr i).toLoadRect (View.loadsAt_vmem h_S1x2048x128))
    Prog.lift (.store wM (wr i) (merge a z) Finset.univ hS (.inl rfl))
    pure ⟨⟩
  else do
    pure ⟨⟩
  if h : C then do
    next h
    pure ⟨⟩
  else do
    pure ⟨⟩
  R

/-! ## A panel's resources between exchanges -/

/-- The closed cells and used landing slots of the exchanges before the `n`-th. -/
def doneR (c : Dev nD) (i : Fin 4) : ℕ → sProp 𝕄
  | 0 => iprop(emp)
  | n + 1 => iprop(doneR c i n ∗ (semVal (sendCell c i (ex n)) 0 ∗ semVal (recvCell c i (ex n)) 0 ∗ pAny c i (ex n)))

theorem doneR_succ (c : Dev nD) (i : Fin 4) (n : ℕ) : doneR (F := F) c i (n + 1)
    = iprop(doneR c i n ∗ (semVal (sendCell c i (ex n)) 0 ∗ semVal (recvCell c i (ex n)) 0 ∗ pAny c i (ex n))) := rfl

/-- What the last `k` exchanges need that are not started yet. -/
def todoR (c : Dev nD) (i : Fin 4) : ℕ → sProp 𝕄
  | 0 => iprop(emp)
  | k + 1 => iprop((atPos ER (sendCell c i (ex (9 - k))) 0 ∅ 0 ∗ atPos ER (recvCell c i (ex (9 - k))) 0 ∅ 0
      ∗ cred (tallyAt (recvCell c i (ex (9 - k))) () N) ∗ dutyTok ER (sendCell c i (ex (9 - k))) 0 0
      ∗ dutyTok ER (recvCell (peer c (9 - k)) i (ex (9 - k))) 0 0 ∗ pAny (peer c (9 - k)) i (ex (9 - k))) ∗ todoR c i k)

/-- Exchange `n` is under way; after the tenth the slot is back. -/
def pend (c : Dev nD) (i : Fin 4) (n : ℕ) : sProp 𝕄 :=
  if n < 10 then iprop(cred (tallyAt (sendCell c i (ex n)) () N) ∗ atPos ER (sendCell c i (ex n)) 0 ∅ 0
      ∗ atPos ER (recvCell c i (ex n)) 0 ∅ 0 ∗ cred (tallyAt (recvCell c i (ex n)) () N))
  else wSlot c i (Wk m ρ i 10 c)

/-- Panel `i` of device `c` after `n` exchanges, the next one under way. -/
def inst (c : Dev nD) (i : Fin 4) (n : ℕ) : sProp 𝕄 := iprop(pend m ρ c i n ∗ doneR c i n ∗ todoR c i (9 - n))

section One
variable {α : Type} (c : Dev nD) (i : Fin 4)

/-- Starting transfer `n` of panel `i` from the slot at its contents. -/
theorem send_inst (Q : α → sProp 𝕄) (n : ℕ) (hn : n < 10) (r r' : Fin 4 → ℕ) (hr : r i = 10 - n) (hr' : r' i = 9 - n) (hne : ∀ j, j ≠ i → r' j = r j)
    (d : Dev nD) (hd : d = peer c n) (off : Fin 4 → ℕ) (ho : off = ![i.val, (ex n).val, 0, 0])
    (inb : ∀ a, off a + S1x1x2048x128.size a ≤ S4x10x2048x128.size a)
    (s1 s2 : DmaSem sig) (h1 : s1 = sendS i (ex n)) (h2 : s2 = recvS i (ex n))
    {hsc hsrc hdst hsem} {k : PUnit → Pg α} :
    iprop(recs m ρ K ∗ wSlot c i (Wk m ρ i n c) ∗ todoR c i (10 - n) ∗ owesE c (rem c r))
      ⊢ iprop(((pend m ρ c i n ∗ todoR c i (9 - n) ∗ owesE c (rem c r')) -∗ wpc c (k ⟨⟩) Q)
        -∗ wpc c (.op (.enqueueDma (wV i) (.remote (Dev.tc d : Thread nD τ) (pAt off inb) (.dma s1) hsc) (.dma s2) hsrc hdst hsem) k) Q) := by
  obtain ⟨k', hk'⟩ : ∃ k', 10 - n = k' + 1 := ⟨9 - n, by omega⟩
  have hk9 : 9 - n = k' := by omega
  have hnk : 9 - k' = n := by omega
  have hex : (ex n).val = n := ex_val hn
  have hO := rem_step c r r' i k' (hr.trans hk') (hr'.trans hk9) hne
  rw [hnk] at hO
  rw [hk', hk9]
  unfold pend; rw [if_pos hn]
  rw [show todoR (F := F) c i (k' + 1) = iprop((atPos ER (sendCell c i (ex (9 - k'))) 0 ∅ 0 ∗ atPos ER (recvCell c i (ex (9 - k'))) 0 ∅ 0
      ∗ cred (tallyAt (recvCell c i (ex (9 - k'))) () N) ∗ dutyTok ER (sendCell c i (ex (9 - k'))) 0 0
      ∗ dutyTok ER (recvCell (peer c (9 - k')) i (ex (9 - k'))) 0 0 ∗ pAny (peer c (9 - k')) i (ex (9 - k'))) ∗ todoR c i k') from rfl, hnk]
  iintro ⟨#HR, Hw, ⟨⟨Ha1, Ha2, Hc2, Ht1, Ht2, Hp⟩, Htodo⟩, HO⟩ Hk
  iapply (send_step (F := F) m ρ K c i (ex n) Q d (by rw [hex]; exact hd) ![i.val, 0, 0] rfl (inbW i) off ho inb s1 s2 h1 h2 (rem c r) (rem c r')
    (by rw [hex]; exact hO)) $$ [Hw Hp HO Ht1 Ht2]
  · rw [hex]
    isplitr; · iexact HR
    isplitl [Hw]; · iexact Hw
    isplitl [Hp]; · iexact Hp
    isplitl [HO]; · iexact HO
    isplitl [Ht1] <;> iassumption
  iintro ⟨Hc, HO⟩
  iapply Hk
  isplitl [Hc Ha1 Ha2 Hc2]
  · isplitl [Hc]; · iexact Hc
    isplitl [Ha1]; · iexact Ha1
    isplitl [Ha2] <;> iassumption
  isplitl [Htodo] <;> iassumption

/-- One exchange. -/
theorem exch_step (Q : Unit → sProp 𝕄) (n : ℕ) (hn : n < 10) (r r' : Fin 4 → ℕ) (hr : r i = 9 - n) (hr' : r' i = 9 - (n + 1)) (hne : ∀ j, j ≠ i → r' j = r j)
    (hord : ∀ j : Fin 4, 0 < r j → i.val + n + r j < 10 + j.val)
    (hW : (wV i).view.WordExact) (hS : (wM.access (wr i)).Stores Finset.univ)
    (off off' : Fin 4 → ℕ) (inb : ∀ a, off a + S1x1x2048x128.size a ≤ S4x10x2048x128.size a) (inb' : ∀ a, off' a + S1x1x2048x128.size a ≤ S4x10x2048x128.size a)
    (ho : off = ![i.val, (ex n).val, 0, 0]) (ho' : off' = ![i.val, (ex n).val, 0, 0])
    (hP : (pAt off inb).view.WordExact) (s1 s2 : DmaSem sig) (h1 : s1 = sendS i (ex n)) (h2 : s2 = recvS i (ex n))
    (a k v : BitVec 1) (ha : a = asc c n) (hk : k = keep c n) (hv : v = if bOf n = 0 then 1#1 else 0#1)
    (C : Prop) [Decidable C] (hC : C ↔ n + 1 < 10) (next : C → Pg Unit) (R : Pg Unit)
    (hnext : ∀ (h : C) (hn' : n + 1 < 10) (Q' : Unit → sProp 𝕄),
      iprop(recs m ρ K ∗ wSlot c i (Wk m ρ i (n + 1) c) ∗ todoR c i (10 - (n + 1)) ∗ owesE c (rem c r))
        ⊢ iprop(((pend m ρ c i (n + 1) ∗ todoR c i (9 - (n + 1)) ∗ owesE c (rem c r')) -∗ Q' ⟨⟩) -∗ wpc c (next h) Q')) :
    iprop(recs m ρ K ∗ levAts L lv ∗ inst m ρ c i n ∗ owesE c (rem c r))
      ⊢ iprop(((inst m ρ c i (n + 1) ∗ owesE c (rem c r')) -∗ wpc c R Q) -∗ wpc c (exch i hW hS off off' inb inb' hP s1 s2 a k v C next R) Q) := by
  have hex : (ex n).val = n := ex_val hn
  subst ho
  unfold exch inst
  rw [show pend m ρ c i n = iprop(cred (tallyAt (sendCell c i (ex n)) () N) ∗ atPos ER (sendCell c i (ex n)) 0 ∅ 0
      ∗ atPos ER (recvCell c i (ex n)) 0 ∅ 0 ∗ cred (tallyAt (recvCell c i (ex n)) () N)) from if_pos hn]
  simp only [Prog.lift, Prog.bind_op, Prog.bind_ret, Prog.pure_eq_ret]
  iintro ⟨#HR, #Hlev, ⟨⟨Hc1, Ha1, Ha2, Hc2⟩, Hdone, Htodo⟩, HO⟩ Hk
  iapply (wait_send (F := F) m ρ K c i (ex n) Q r s1 h1 (N_w i)) $$ [Hc1 HO Ha1]
  · isplitr; · iexact HR
    isplitr; · iexact Hlev
    isplitl [Hc1]; · iexact Hc1
    isplitl [HO] <;> iassumption
  iintro ⟨HO, Hz1, Hw⟩
  iapply (wait_recv (F := F) m ρ K c i (ex n) Q r (by rw [hex]; exact hord) s2 h2 (N_p i (ex n))) $$ [Hc2 HO Ha2]
  · isplitr; · iexact HR
    isplitr; · iexact Hlev
    isplitl [Hc2]; · iexact Hc2
    isplitl [HO] <;> iassumption
  iintro ⟨HO, Hz2, Hp⟩
  rw [hex]
  iapply (load_w (F := F) c i Q ![i.val, 0, 0] rfl (inbW i)) $$ Hw; iintro Hw
  iapply (load_p (F := F) c i (ex n) Q off' ho' inb') $$ Hp; iintro Hp
  iapply (load_w (F := F) c i Q ![i.val, 0, 0] rfl (inbW i)) $$ Hw; iintro Hw
  iapply (store_w (F := F) c i Q ![i.val, 0, 0] rfl (inbW i)) $$ Hw; iintro Hw
  ihave Hp := (pSlot_any c i (ex n) _) $$ Hp
  -- what follows the run's end
  have hfin : iprop(recs m ρ K ∗ wSlot c i (Wk m ρ i (n + 1) c) ∗ todoR c i (9 - n) ∗ doneR c i (n + 1) ∗ owesE c (rem c r))
      ⊢ iprop(((inst m ρ c i (n + 1) ∗ owesE c (rem c r')) -∗ wpc c R Q)
        -∗ wpc c (if h : C then do next h; R else R) Q) := by
    unfold inst
    iintro ⟨#HR, Hw, Htodo, Hdone, HO⟩ Hk
    by_cases hc : n + 1 < 10
    · rw [dif_pos (hC.mpr hc)]; unfold wpc; rw [wp_bind]
      iapply (hnext (hC.mpr hc) hc _) $$ [Hw Htodo HO]
      · isplitr; · iexact HR
        isplitl [Hw]; · iexact Hw
        rw [show 10 - (n + 1) = 9 - n by omega]
        isplitl [Htodo] <;> iassumption
      iintro ⟨Hpend, Htodo, HO⟩
      iapply Hk
      isplitr [HO]
      · isplitl [Hpend]; · iexact Hpend
        isplitl [Hdone] <;> iassumption
      iexact HO
    · obtain rfl : n = 9 := by omega
      rw [dif_neg (fun h => hc (hC.mp h))]
      have hrr : r' = r := by
        funext j; by_cases hj : j = i
        · subst hj; rw [hr, hr']
        · exact hne j hj
      subst hrr
      iapply Hk
      isplitr [HO]
      · isplitl [Hw]; · unfold pend; rw [if_neg (by decide)]; iexact Hw
        isplitl [Hdone] <;> iassumption
      iexact HO
  unfold inst at hfin
  by_cases hb : bOf n = 0
  · rw [hv, if_pos hb, dif_pos rfl]
    iapply (load_w (F := F) c i _ ![i.val, 0, 0] rfl (inbW i)) $$ Hw; iintro Hw
    iapply (load_w (F := F) c i _ ![i.val, 0, 0] rfl (inbW i)) $$ Hw; iintro Hw
    iapply (store_w (F := F) c i _ ![i.val, 0, 0] rfl (inbW i)) $$ Hw; iintro Hw
    rw [show merge a (k0_pay56 k (Wk m ρ i n c) (lift (Wk m ρ i n (peer c n)))) = Wk m ρ i (n + 1) c from by
      subst ha hk; show _ = finish c n _; unfold finish; rw [if_pos hb]; rfl]
    iapply hfin $$ [Hw Htodo Hdone Hz1 Hz2 Hp HO]
    · isplitr; · iexact HR
      isplitl [Hw]; · iexact Hw
      isplitl [Htodo]; · iexact Htodo
      isplitr [HO]
      · rw [doneR_succ]
        isplitl [Hdone]; · iexact Hdone
        isplitl [Hz1]; · iexact Hz1
        isplitl [Hz2] <;> iassumption
      iexact HO
    iexact Hk
  · rw [hv, if_neg hb, dif_neg (by decide)]
    rw [show k0_pay56 k (Wk m ρ i n c) (lift (Wk m ρ i n (peer c n))) = Wk m ρ i (n + 1) c from by
      subst hk; show _ = finish c n _; unfold finish; rw [if_neg hb]; rfl]
    iapply hfin $$ [Hw Htodo Hdone Hz1 Hz2 Hp HO]
    · isplitr; · iexact HR
      isplitl [Hw]; · iexact Hw
      isplitl [Htodo]; · iexact Htodo
      isplitr [HO]
      · rw [doneR_succ]
        isplitl [Hdone]; · iexact Hdone
        isplitl [Hz1]; · iexact Hz1
        isplitl [Hz2] <;> iassumption
      iexact HO
    iexact Hk

end One

end Cert.Mesh

end
-- ==== Proof.Words.lean ====
/-
# `Words`: the kernel's computed indices are the plain ones

Offsets, semaphores, partners and branch conditions of the second loop and of the first transfers, as numbers.
-/
module

public import proofs.«01_k».proof.Proof.Exchange

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem inbS : ∀ (i : Fin 4) (e : Fin 10) a, (![i.val, e.val] : Fin 2 → ℕ) a + S1x1.size a ≤ S4x10.size a := by decide

theorem sem_send₀ : ∀ (i : Fin 4) (e : Fin 10),
    ((cc0_scratch2.slice (Rect.unit (s := S4x10) ![i.val, e.val] S1x1.size (inbS i e))).squeeze S_ squeezes_S1x1_S_).sem = sendS i e := by decide +kernel
theorem sem_recv₀ : ∀ (i : Fin 4) (e : Fin 10),
    ((cc0_scratch3.slice (Rect.unit (s := S4x10) ![i.val, e.val] S1x1.size (inbS i e))).squeeze S_ squeezes_S1x1_S_).sem = recvS i e := by decide +kernel

/-- The send semaphore at offsets `i`, `e`. -/
theorem sem_send (i : Fin 4) (e : Fin 10) (off : Fin 2 → ℕ) (ho : off = ![i.val, e.val]) (inb : ∀ a, off a + S1x1.size a ≤ S4x10.size a) :
    ((cc0_scratch2.slice (Rect.unit (s := S4x10) off S1x1.size inb)).squeeze S_ squeezes_S1x1_S_).sem = sendS i e := by
  subst ho; exact sem_send₀ i e
/-- The receive semaphore at offsets `i`, `e`. -/
theorem sem_recv (i : Fin 4) (e : Fin 10) (off : Fin 2 → ℕ) (ho : off = ![i.val, e.val]) (inb : ∀ a, off a + S1x1.size a ≤ S4x10.size a) :
    ((cc0_scratch3.slice (Rect.unit (s := S4x10) off S1x1.size inb)).squeeze S_ squeezes_S1x1_S_).sem = recvS i e := by
  subst ho; exact sem_recv₀ i e

/-! ## The signals and the first transfers -/

theorem dev1_eq : ∀ c : Dev nD, (⟨k0_dev1 c, k0_dev1_lt c⟩ : Dev nD) = flip 0 c := by decide +kernel
theorem dev2_eq : ∀ c : Dev nD, (⟨k0_dev2 c, k0_dev2_lt c⟩ : Dev nD) = flip 1 c := by decide +kernel
theorem dev3_eq : ∀ c : Dev nD, (⟨k0_dev3 c, k0_dev3_lt c⟩ : Dev nD) = flip 2 c := by decide +kernel
theorem dev4_eq : ∀ c : Dev nD, (⟨k0_dev4 c, k0_dev4_lt c⟩ : Dev nD) = flip 3 c := by decide +kernel
theorem dev5_eq : ∀ c : Dev nD, (⟨k0_dev5 c, k0_dev5_lt c⟩ : Dev nD) = peer c 0 := by decide +kernel
theorem dev6_eq : ∀ c : Dev nD, (⟨k0_dev6 c, k0_dev6_lt c⟩ : Dev nD) = peer c 0 := by decide +kernel
theorem dev7_eq : ∀ c : Dev nD, (⟨k0_dev7 c, k0_dev7_lt c⟩ : Dev nD) = peer c 0 := by decide +kernel
theorem dev8_eq : ∀ c : Dev nD, (⟨k0_dev8 c, k0_dev8_lt c⟩ : Dev nD) = peer c 0 := by decide +kernel

/-! ## Panel 0 in trip `t` -/

theorem cond_0 : ∀ t : Fin k0_t2_loop.trips, k0_cond1 t = 1#1 ↔ 0 ≤ t.val ∧ t.val < 0 + 10 := by decide +kernel
theorem more_0 : ∀ t : Fin k0_t2_loop.trips, k0_cond1 t = 1#1 → (k0_cond3 t = 1#1 ↔ t.val - 0 + 1 < 10) := by decide +kernel
theorem word_0 : ∀ t : Fin k0_t2_loop.trips, k0_cond1 t = 1#1 → Scalar.subi (Scf.iv 0#32 1#32 t) 0#32 = BitVec.ofNat 32 (ex (t.val - 0)).val := by decide +kernel
theorem offS_0 : ∀ t : Fin k0_t2_loop.trips, k0_cond1 t = 1#1 → k0_off3 t = ![(0 : Fin 4).val, (ex (t.val - 0)).val] := by decide +kernel
theorem offP_0 : ∀ t : Fin k0_t2_loop.trips, k0_cond1 t = 1#1 → k0_off4 t = ![(0 : Fin 4).val, (ex (t.val - 0)).val, 0, 0] := by decide +kernel
theorem offL_0 : ∀ t : Fin k0_t2_loop.trips, k0_cond1 t = 1#1 → k0_off5 t = ![(0 : Fin 4).val, (ex (t.val - 0)).val, 0, 0] := by decide +kernel
theorem offN_0 : ∀ t : Fin k0_t2_loop.trips, k0_cond1 t = 1#1 → k0_cond3 t = 1#1 → k0_off6 t = ![(0 : Fin 4).val, (ex (t.val - 0 + 1)).val] := by decide +kernel
theorem offQ_0 : ∀ t : Fin k0_t2_loop.trips, k0_cond1 t = 1#1 → k0_cond3 t = 1#1 → k0_off7 t = ![(0 : Fin 4).val, (ex (t.val - 0 + 1)).val, 0, 0] := by decide +kernel
theorem to_0 : ∀ (c : Dev nD) (t : Fin k0_t2_loop.trips), k0_cond1 t = 1#1 → k0_cond3 t = 1#1 → k0_dev9 c t = (peer c (t.val - 0 + 1)).val := by decide +kernel

/-! ## Panel 1 in trip `t` -/

theorem cond_1 : ∀ t : Fin k0_t2_loop.trips, k0_cond4 t = 1#1 ↔ 1 ≤ t.val ∧ t.val < 1 + 10 := by decide +kernel
theorem more_1 : ∀ t : Fin k0_t2_loop.trips, k0_cond4 t = 1#1 → (k0_cond6 t = 1#1 ↔ t.val - 1 + 1 < 10) := by decide +kernel
theorem word_1 : ∀ t : Fin k0_t2_loop.trips, k0_cond4 t = 1#1 → Scalar.subi (Scf.iv 0#32 1#32 t) 1#32 = BitVec.ofNat 32 (ex (t.val - 1)).val := by decide +kernel
theorem offS_1 : ∀ t : Fin k0_t2_loop.trips, k0_cond4 t = 1#1 → k0_off8 t = ![(1 : Fin 4).val, (ex (t.val - 1)).val] := by decide +kernel
theorem offP_1 : ∀ t : Fin k0_t2_loop.trips, k0_cond4 t = 1#1 → k0_off9 t = ![(1 : Fin 4).val, (ex (t.val - 1)).val, 0, 0] := by decide +kernel
theorem offL_1 : ∀ t : Fin k0_t2_loop.trips, k0_cond4 t = 1#1 → k0_off10 t = ![(1 : Fin 4).val, (ex (t.val - 1)).val, 0, 0] := by decide +kernel
theorem offN_1 : ∀ t : Fin k0_t2_loop.trips, k0_cond4 t = 1#1 → k0_cond6 t = 1#1 → k0_off11 t = ![(1 : Fin 4).val, (ex (t.val - 1 + 1)).val] := by decide +kernel
theorem offQ_1 : ∀ t : Fin k0_t2_loop.trips, k0_cond4 t = 1#1 → k0_cond6 t = 1#1 → k0_off12 t = ![(1 : Fin 4).val, (ex (t.val - 1 + 1)).val, 0, 0] := by decide +kernel
theorem to_1 : ∀ (c : Dev nD) (t : Fin k0_t2_loop.trips), k0_cond4 t = 1#1 → k0_cond6 t = 1#1 → k0_dev10 c t = (peer c (t.val - 1 + 1)).val := by decide +kernel

/-! ## Panel 2 in trip `t` -/

theorem cond_2 : ∀ t : Fin k0_t2_loop.trips, k0_cond7 t = 1#1 ↔ 2 ≤ t.val ∧ t.val < 2 + 10 := by decide +kernel
theorem more_2 : ∀ t : Fin k0_t2_loop.trips, k0_cond7 t = 1#1 → (k0_cond9 t = 1#1 ↔ t.val - 2 + 1 < 10) := by decide +kernel
theorem word_2 : ∀ t : Fin k0_t2_loop.trips, k0_cond7 t = 1#1 → Scalar.subi (Scf.iv 0#32 1#32 t) 2#32 = BitVec.ofNat 32 (ex (t.val - 2)).val := by decide +kernel
theorem offS_2 : ∀ t : Fin k0_t2_loop.trips, k0_cond7 t = 1#1 → k0_off13 t = ![(2 : Fin 4).val, (ex (t.val - 2)).val] := by decide +kernel
theorem offP_2 : ∀ t : Fin k0_t2_loop.trips, k0_cond7 t = 1#1 → k0_off14 t = ![(2 : Fin 4).val, (ex (t.val - 2)).val, 0, 0] := by decide +kernel
theorem offL_2 : ∀ t : Fin k0_t2_loop.trips, k0_cond7 t = 1#1 → k0_off15 t = ![(2 : Fin 4).val, (ex (t.val - 2)).val, 0, 0] := by decide +kernel
theorem offN_2 : ∀ t : Fin k0_t2_loop.trips, k0_cond7 t = 1#1 → k0_cond9 t = 1#1 → k0_off16 t = ![(2 : Fin 4).val, (ex (t.val - 2 + 1)).val] := by decide +kernel
theorem offQ_2 : ∀ t : Fin k0_t2_loop.trips, k0_cond7 t = 1#1 → k0_cond9 t = 1#1 → k0_off17 t = ![(2 : Fin 4).val, (ex (t.val - 2 + 1)).val, 0, 0] := by decide +kernel
theorem to_2 : ∀ (c : Dev nD) (t : Fin k0_t2_loop.trips), k0_cond7 t = 1#1 → k0_cond9 t = 1#1 → k0_dev11 c t = (peer c (t.val - 2 + 1)).val := by decide +kernel

/-! ## Panel 3 in trip `t` -/

theorem cond_3 : ∀ t : Fin k0_t2_loop.trips, k0_cond10 t = 1#1 ↔ 3 ≤ t.val ∧ t.val < 3 + 10 := by decide +kernel
theorem more_3 : ∀ t : Fin k0_t2_loop.trips, k0_cond10 t = 1#1 → (k0_cond12 t = 1#1 ↔ t.val - 3 + 1 < 10) := by decide +kernel
theorem word_3 : ∀ t : Fin k0_t2_loop.trips, k0_cond10 t = 1#1 → Scalar.subi (Scf.iv 0#32 1#32 t) 3#32 = BitVec.ofNat 32 (ex (t.val - 3)).val := by decide +kernel
theorem offS_3 : ∀ t : Fin k0_t2_loop.trips, k0_cond10 t = 1#1 → k0_off18 t = ![(3 : Fin 4).val, (ex (t.val - 3)).val] := by decide +kernel
theorem offP_3 : ∀ t : Fin k0_t2_loop.trips, k0_cond10 t = 1#1 → k0_off19 t = ![(3 : Fin 4).val, (ex (t.val - 3)).val, 0, 0] := by decide +kernel
theorem offL_3 : ∀ t : Fin k0_t2_loop.trips, k0_cond10 t = 1#1 → k0_off20 t = ![(3 : Fin 4).val, (ex (t.val - 3)).val, 0, 0] := by decide +kernel
theorem offN_3 : ∀ t : Fin k0_t2_loop.trips, k0_cond10 t = 1#1 → k0_cond12 t = 1#1 → k0_off21 t = ![(3 : Fin 4).val, (ex (t.val - 3 + 1)).val] := by decide +kernel
theorem offQ_3 : ∀ t : Fin k0_t2_loop.trips, k0_cond10 t = 1#1 → k0_cond12 t = 1#1 → k0_off22 t = ![(3 : Fin 4).val, (ex (t.val - 3 + 1)).val, 0, 0] := by decide +kernel
theorem to_3 : ∀ (c : Dev nD) (t : Fin k0_t2_loop.trips), k0_cond10 t = 1#1 → k0_cond12 t = 1#1 → k0_dev12 c t = (peer c (t.val - 3 + 1)).val := by decide +kernel

end Cert.Mesh

end
-- ==== Proof.Trip.lean ====
/-
# `Trip`: one trip of the second loop

A trip is the four panels' programs one after the other; each takes its panel one exchange further, if it has one then.
-/
module

public import proofs.«01_k».proof.Proof.Words

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "Pg" => Prog (TpuEff nD τ sig (Elt F) Λ₀ Proc.tc)

variable (m : (ℓ : Loc nD τ sig) → Buf (Elt F) ℓ) (ρ : Dev nD → PrngReg) (K : Dev nD × (Unit ⊕ Fin 80) → ℕ)

/-- Every slot is made of whole words. -/
theorem wordW : ∀ i : Fin 4, (wV i).view.WordExact
  | 0 => ((Memref.isWhole_whole cc0_scratch0).wordExact_slice rfl _ wordsbf16_S4x2048x128_S1x2048x128_0_0_0).reshape _ _
  | 1 => ((Memref.isWhole_whole cc0_scratch0).wordExact_slice rfl _ wordsbf16_S4x2048x128_S1x2048x128_1_0_0).reshape _ _
  | 2 => ((Memref.isWhole_whole cc0_scratch0).wordExact_slice rfl _ wordsbf16_S4x2048x128_S1x2048x128_2_0_0).reshape _ _
  | 3 => ((Memref.isWhole_whole cc0_scratch0).wordExact_slice rfl _ wordsbf16_S4x2048x128_S1x2048x128_3_0_0).reshape _ _
/-- Every slot can be stored whole. -/
theorem storeW : ∀ i : Fin 4, (wM.access (wr i)).Stores Finset.univ
  | 0 => View.stores_vmem h_S1x2048x128 ((Memref.isWhole_whole cc0_scratch0).storeExact_slice rfl _ packedbf16_S4x2048x128_S1x2048x128_0_0_0) (fun _ => rfl)
  | 1 => View.stores_vmem h_S1x2048x128 ((Memref.isWhole_whole cc0_scratch0).storeExact_slice rfl _ packedbf16_S4x2048x128_S1x2048x128_1_0_0) (fun _ => rfl)
  | 2 => View.stores_vmem h_S1x2048x128 ((Memref.isWhole_whole cc0_scratch0).storeExact_slice rfl _ packedbf16_S4x2048x128_S1x2048x128_2_0_0) (fun _ => rfl)
  | 3 => View.stores_vmem h_S1x2048x128 ((Memref.isWhole_whole cc0_scratch0).storeExact_slice rfl _ packedbf16_S4x2048x128_S1x2048x128_3_0_0) (fun _ => rfl)

/-- The send and the receive semaphore at computed offsets. -/
abbrev sAt (off : Fin 2 → ℕ) (inb : ∀ a, off a + S1x1.size a ≤ S4x10.size a) : DmaSem sig :=
  ((cc0_scratch2.slice (Rect.unit (s := S4x10) off S1x1.size inb)).squeeze S_ squeezes_S1x1_S_).sem
abbrev rAt (off : Fin 2 → ℕ) (inb : ∀ a, off a + S1x1.size a ≤ S4x10.size a) : DmaSem sig :=
  ((cc0_scratch3.slice (Rect.unit (s := S4x10) off S1x1.size inb)).squeeze S_ squeezes_S1x1_S_).sem

/-- The exchange number trip `t` has for panel `i`, as the kernel computes it. -/
abbrev wEx (t : Fin k0_t2_loop.trips) (i : BitVec 32) : BitVec 32 := Scalar.subi (Scf.iv 0#32 1#32 t) i

/-- Panel 0's next transfer, started in trip `t`. -/
def start0 (c : Dev nD) (t : Fin k0_t2_loop.trips) (h1 : k0_cond1 t = 1#1) (h3 : k0_cond3 t = 1#1) : Pg Unit :=
  .op (.enqueueDma (wV 0) (.remote (Dev.tc (⟨k0_dev9 c t, k0_dev9_lt c t h1 h3⟩ : Dev nD))
    (pAt (k0_off7 t) (k0_off7_inb t h1 h3)) (.dma (sAt (k0_off6 t) (k0_off6_inb t h1 h3)))) (.dma (rAt (k0_off6 t) (k0_off6_inb t h1 h3)))
    (wordW 0) (((Memref.isWhole_whole cc0_scratch1).wordExact_slice rfl _ (k0_off7_wordsbf16 t h1 h3)).reshape _ _) ⟨⟨rfl, Or.inl rfl⟩, trivial⟩) .ret

/-- Panel 0 in trip `t`, then `R`. -/
def panel0 (c : Dev nD) (t : Fin k0_t2_loop.trips) (R : Pg Unit) : Pg Unit :=
  if h1 : k0_cond1 t = 1#1 then
    exch 0 (wordW 0) (storeW 0) (k0_off4 t) (k0_off5 t) (k0_off4_inb t h1) (k0_off5_inb t h1)
      (((Memref.isWhole_whole cc0_scratch1).wordExact_slice rfl _ (k0_off4_wordsbf16 t h1)).reshape _ _)
      (sAt (k0_off3 t) (k0_off3_inb t h1)) (rAt (k0_off3 t) (k0_off3_inb t h1))
      (wAsc (wDev c) (wEx t 0#32)) (wKeep (wDev c) (wEx t 0#32)) (wEnd (wEx t 0#32)) (k0_cond3 t = 1#1)
      (fun h3 => start0 c t h1 h3) R
  else R

/-- Panel 1's next transfer, started in trip `t`. -/
def start1 (c : Dev nD) (t : Fin k0_t2_loop.trips) (h1 : k0_cond4 t = 1#1) (h3 : k0_cond6 t = 1#1) : Pg Unit :=
  .op (.enqueueDma (wV 1) (.remote (Dev.tc (⟨k0_dev10 c t, k0_dev10_lt c t h1 h3⟩ : Dev nD))
    (pAt (k0_off12 t) (k0_off12_inb t h1 h3)) (.dma (sAt (k0_off11 t) (k0_off11_inb t h1 h3)))) (.dma (rAt (k0_off11 t) (k0_off11_inb t h1 h3)))
    (wordW 1) (((Memref.isWhole_whole cc0_scratch1).wordExact_slice rfl _ (k0_off12_wordsbf16 t h1 h3)).reshape _ _) ⟨⟨rfl, Or.inl rfl⟩, trivial⟩) .ret

/-- Panel 1 in trip `t`, then `R`. -/
def panel1 (c : Dev nD) (t : Fin k0_t2_loop.trips) (R : Pg Unit) : Pg Unit :=
  if h1 : k0_cond4 t = 1#1 then
    exch 1 (wordW 1) (storeW 1) (k0_off9 t) (k0_off10 t) (k0_off9_inb t h1) (k0_off10_inb t h1)
      (((Memref.isWhole_whole cc0_scratch1).wordExact_slice rfl _ (k0_off9_wordsbf16 t h1)).reshape _ _)
      (sAt (k0_off8 t) (k0_off8_inb t h1)) (rAt (k0_off8 t) (k0_off8_inb t h1))
      (wAsc (wDev c) (wEx t 1#32)) (wKeep (wDev c) (wEx t 1#32)) (wEnd (wEx t 1#32)) (k0_cond6 t = 1#1)
      (fun h3 => start1 c t h1 h3) R
  else R

/-- Panel 2's next transfer, started in trip `t`. -/
def start2 (c : Dev nD) (t : Fin k0_t2_loop.trips) (h1 : k0_cond7 t = 1#1) (h3 : k0_cond9 t = 1#1) : Pg Unit :=
  .op (.enqueueDma (wV 2) (.remote (Dev.tc (⟨k0_dev11 c t, k0_dev11_lt c t h1 h3⟩ : Dev nD))
    (pAt (k0_off17 t) (k0_off17_inb t h1 h3)) (.dma (sAt (k0_off16 t) (k0_off16_inb t h1 h3)))) (.dma (rAt (k0_off16 t) (k0_off16_inb t h1 h3)))
    (wordW 2) (((Memref.isWhole_whole cc0_scratch1).wordExact_slice rfl _ (k0_off17_wordsbf16 t h1 h3)).reshape _ _) ⟨⟨rfl, Or.inl rfl⟩, trivial⟩) .ret

/-- Panel 2 in trip `t`, then `R`. -/
def panel2 (c : Dev nD) (t : Fin k0_t2_loop.trips) (R : Pg Unit) : Pg Unit :=
  if h1 : k0_cond7 t = 1#1 then
    exch 2 (wordW 2) (storeW 2) (k0_off14 t) (k0_off15 t) (k0_off14_inb t h1) (k0_off15_inb t h1)
      (((Memref.isWhole_whole cc0_scratch1).wordExact_slice rfl _ (k0_off14_wordsbf16 t h1)).reshape _ _)
      (sAt (k0_off13 t) (k0_off13_inb t h1)) (rAt (k0_off13 t) (k0_off13_inb t h1))
      (wAsc (wDev c) (wEx t 2#32)) (wKeep (wDev c) (wEx t 2#32)) (wEnd (wEx t 2#32)) (k0_cond9 t = 1#1)
      (fun h3 => start2 c t h1 h3) R
  else R

/-- Panel 3's next transfer, started in trip `t`. -/
def start3 (c : Dev nD) (t : Fin k0_t2_loop.trips) (h1 : k0_cond10 t = 1#1) (h3 : k0_cond12 t = 1#1) : Pg Unit :=
  .op (.enqueueDma (wV 3) (.remote (Dev.tc (⟨k0_dev12 c t, k0_dev12_lt c t h1 h3⟩ : Dev nD))
    (pAt (k0_off22 t) (k0_off22_inb t h1 h3)) (.dma (sAt (k0_off21 t) (k0_off21_inb t h1 h3)))) (.dma (rAt (k0_off21 t) (k0_off21_inb t h1 h3)))
    (wordW 3) (((Memref.isWhole_whole cc0_scratch1).wordExact_slice rfl _ (k0_off22_wordsbf16 t h1 h3)).reshape _ _) ⟨⟨rfl, Or.inl rfl⟩, trivial⟩) .ret

/-- Panel 3 in trip `t`, then `R`. -/
def panel3 (c : Dev nD) (t : Fin k0_t2_loop.trips) (R : Pg Unit) : Pg Unit :=
  if h1 : k0_cond10 t = 1#1 then
    exch 3 (wordW 3) (storeW 3) (k0_off19 t) (k0_off20 t) (k0_off19_inb t h1) (k0_off20_inb t h1)
      (((Memref.isWhole_whole cc0_scratch1).wordExact_slice rfl _ (k0_off19_wordsbf16 t h1)).reshape _ _)
      (sAt (k0_off18 t) (k0_off18_inb t h1)) (rAt (k0_off18 t) (k0_off18_inb t h1))
      (wAsc (wDev c) (wEx t 3#32)) (wKeep (wDev c) (wEx t 3#32)) (wEnd (wEx t 3#32)) (k0_cond12 t = 1#1)
      (fun h3 => start3 c t h1 h3) R
  else R

set_option maxRecDepth 65536 in
/-- The printed trip is the four panels in turn. -/
theorem trip_eq (c : Dev nD) (v44 c1 : BitVec 32) (t : Fin k0_t2_loop.trips) (u : Unit) :
    k0_t2_body (F := F) xM (Memref.isWhole_whole _) oM (Memref.isWhole_whole _) wM (Memref.isWhole_whole _) pM (Memref.isWhole_whole _) cc0_scratch2 cc0_scratch3
        c (wDev c) v44 c1 t u
      = panel0 c t (panel1 c t (panel2 c t (panel3 c t (pure ⟨⟩)))) := rfl

/-- The exchanges panel `i` has behind it before trip `s`. -/
def eAt (i : Fin 4) (s : ℕ) : ℕ := min (s - i.val) 10

/-- The transfers still owed in trip `s` when the panels before `q` are through. -/
def owed (s q : ℕ) (j : Fin 4) : ℕ := if j.val < q then 9 - (s + 1 - j.val) else 9 - (s - j.val)

theorem owed_next (s : ℕ) : owed s 4 = owed (s + 1) 0 := by
  funext j; unfold owed; rw [if_pos j.isLt, if_neg (Nat.not_lt_zero _)]
theorem owed_ne (s : ℕ) (i : Fin 4) (j : Fin 4) (h : j ≠ i) : owed s (i.val + 1) j = owed s i.val j := by
  have : j.val ≠ i.val := fun e => h (Fin.ext e)
  unfold owed; split <;> split <;> first | rfl | omega
theorem owed_self (s : ℕ) (i : Fin 4) : owed s i.val i = 9 - (s - i.val) := by unfold owed; rw [if_neg (Nat.lt_irrefl _)]
theorem owed_self' (s : ℕ) (i : Fin 4) : owed s (i.val + 1) i = 9 - (s + 1 - i.val) := by unfold owed; rw [if_pos (Nat.lt_succ_self _)]

theorem owed_order (s : ℕ) (i : Fin 4) (h : i.val ≤ s) (j : Fin 4) (hj : 0 < owed s i.val j) : i.val + (s - i.val) + owed s i.val j < 10 + j.val := by
  unfold owed at *; split <;> split at hj <;> omega

section
variable (m : (ℓ : Loc nD τ sig) → Buf (Elt F) ℓ) (ρ : Dev nD → PrngReg) (K : Dev nD × (Unit ⊕ Fin 80) → ℕ)

/-- A trip in which panel `i` has no exchange leaves it and what is owed as they are. -/
theorem idle (c : Dev nD) (i : Fin 4) (s : ℕ) (h : ¬(i.val ≤ s ∧ s < i.val + 10)) (R : Pg Unit) (Q : Unit → sProp 𝕄) :
    iprop(inst m ρ c i (eAt i s) ∗ owesE c (rem c (owed s i.val)))
      ⊢ iprop(((inst m ρ c i (eAt i (s + 1)) ∗ owesE c (rem c (owed s (i.val + 1)))) -∗ wpc c R Q) -∗ wpc c R Q) := by
  have he : eAt i (s + 1) = eAt i s := by unfold eAt; omega
  have ho : owed s (i.val + 1) = owed s i.val := by
    funext j; by_cases hj : j = i
    · subst hj; rw [owed_self, owed_self']; omega
    · exact owed_ne s i j hj
  rw [he, ho]
  iintro H Hk; iapply Hk; iexact H

theorem start0_step (c : Dev nD) (t : Fin k0_t2_loop.trips) (h1 : k0_cond1 t = 1#1) (h3 : k0_cond3 t = 1#1) (ha : 0 ≤ t.val)
    (hn : t.val - 0 + 1 < 10) (Q : Unit → sProp 𝕄) :
    iprop(recs m ρ K ∗ wSlot c 0 (Wk m ρ 0 (t.val - 0 + 1) c) ∗ todoR c 0 (10 - (t.val - 0 + 1)) ∗ owesE c (rem c (owed t.val 0)))
      ⊢ iprop(((pend m ρ c 0 (t.val - 0 + 1) ∗ todoR c 0 (9 - (t.val - 0 + 1)) ∗ owesE c (rem c (owed t.val (0 + 1)))) -∗ Q ⟨⟩)
        -∗ wpc c (start0 c t h1 h3) Q) := by
  unfold start0
  iintro H Hk
  iapply (send_inst (F := F) m ρ K c 0 Q (t.val - 0 + 1) hn (owed t.val 0) (owed t.val (0 + 1))
    ((owed_self t.val 0).trans (by show 9 - (t.val - 0) = _; omega)) ((owed_self' t.val 0).trans (by show 9 - (t.val + 1 - 0) = _; omega)) (owed_ne t.val 0)
    _ (Fin.ext (to_0 c t h1 h3)) _ (offQ_0 t h1 h3) _ _ _ (sem_send 0 _ _ (offN_0 t h1 h3) _) (sem_recv 0 _ _ (offN_0 t h1 h3) _)) $$ H
  iintro H
  unfold wpc; rw [wp_ret]; imodintro
  iapply Hk; iexact H

/-- Panel 0 in trip `t`. -/
theorem panel0_step (c : Dev nD) (t : Fin k0_t2_loop.trips) (R : Pg Unit) (Q : Unit → sProp 𝕄) :
    iprop(recs m ρ K ∗ levAts L lv ∗ inst m ρ c 0 (eAt 0 t.val) ∗ owesE c (rem c (owed t.val 0)))
      ⊢ iprop(((inst m ρ c 0 (eAt 0 (t.val + 1)) ∗ owesE c (rem c (owed t.val (0 + 1)))) -∗ wpc c R Q) -∗ wpc c (panel0 c t R) Q) := by
  unfold panel0
  by_cases h1 : k0_cond1 t = 1#1
  · obtain ⟨ha, hb⟩ := (cond_0 t).mp h1
    have hn : t.val - 0 < 10 := by omega
    rw [dif_pos h1, show eAt 0 t.val = t.val - 0 from Nat.min_eq_left hn.le, show eAt 0 (t.val + 1) = t.val - 0 + 1 from by
      unfold eAt; show min (t.val + 1 - 0) 10 = _; omega]
    have hl : owed t.val (0 + 1) 0 = 9 - (t.val - 0 + 1) := (owed_self' t.val 0).trans (by show 9 - (t.val + 1 - 0) = _; omega)
    have hva : wAsc (wDev c) (wEx t 0#32) = asc c (t.val - 0) := by rw [wEx, word_0 t h1, wAsc_eq, ex_val hn]
    have hvk : wKeep (wDev c) (wEx t 0#32) = keep c (t.val - 0) := by rw [wEx, word_0 t h1, wKeep_eq, ex_val hn]
    have hve : wEnd (wEx t 0#32) = if bOf (t.val - 0) = 0 then 1#1 else 0#1 := by rw [wEx, word_0 t h1, wEnd_eq, ex_val hn]
    have h := exch_step (F := F) m ρ K c 0 Q (t.val - 0) hn (owed t.val 0) (owed t.val (0 + 1)) (owed_self t.val 0) hl (owed_ne t.val 0) (owed_order t.val 0 ha)
      (wordW 0) (storeW 0) (k0_off4 t) (k0_off5 t) (k0_off4_inb t h1) (k0_off5_inb t h1) (offP_0 t h1) (offL_0 t h1)
      (((Memref.isWhole_whole cc0_scratch1).wordExact_slice rfl _ (k0_off4_wordsbf16 t h1)).reshape _ _)
      (sAt (k0_off3 t) (k0_off3_inb t h1)) (rAt (k0_off3 t) (k0_off3_inb t h1)) (sem_send 0 _ _ (offS_0 t h1) _) (sem_recv 0 _ _ (offS_0 t h1) _)
      _ _ _ hva hvk hve (k0_cond3 t = 1#1) (more_0 t h1) (fun h3 => start0 c t h1 h3) R
      (fun h3 hn' Q' => start0_step (F := F) m ρ K c t h1 h3 ha hn' Q')
    iintro H Hk
    iapply h $$ H
    iexact Hk
  · rw [dif_neg h1]
    iintro ⟨-, -, H⟩
    iapply (idle (F := F) m ρ c 0 t.val (fun h => h1 ((cond_0 t).mpr h)) R Q); iexact H

theorem start1_step (c : Dev nD) (t : Fin k0_t2_loop.trips) (h1 : k0_cond4 t = 1#1) (h3 : k0_cond6 t = 1#1) (ha : 1 ≤ t.val)
    (hn : t.val - 1 + 1 < 10) (Q : Unit → sProp 𝕄) :
    iprop(recs m ρ K ∗ wSlot c 1 (Wk m ρ 1 (t.val - 1 + 1) c) ∗ todoR c 1 (10 - (t.val - 1 + 1)) ∗ owesE c (rem c (owed t.val 1)))
      ⊢ iprop(((pend m ρ c 1 (t.val - 1 + 1) ∗ todoR c 1 (9 - (t.val - 1 + 1)) ∗ owesE c (rem c (owed t.val (1 + 1)))) -∗ Q ⟨⟩)
        -∗ wpc c (start1 c t h1 h3) Q) := by
  unfold start1
  iintro H Hk
  iapply (send_inst (F := F) m ρ K c 1 Q (t.val - 1 + 1) hn (owed t.val 1) (owed t.val (1 + 1))
    ((owed_self t.val 1).trans (by show 9 - (t.val - 1) = _; omega)) ((owed_self' t.val 1).trans (by show 9 - (t.val + 1 - 1) = _; omega)) (owed_ne t.val 1)
    _ (Fin.ext (to_1 c t h1 h3)) _ (offQ_1 t h1 h3) _ _ _ (sem_send 1 _ _ (offN_1 t h1 h3) _) (sem_recv 1 _ _ (offN_1 t h1 h3) _)) $$ H
  iintro H
  unfold wpc; rw [wp_ret]; imodintro
  iapply Hk; iexact H

/-- Panel 1 in trip `t`. -/
theorem panel1_step (c : Dev nD) (t : Fin k0_t2_loop.trips) (R : Pg Unit) (Q : Unit → sProp 𝕄) :
    iprop(recs m ρ K ∗ levAts L lv ∗ inst m ρ c 1 (eAt 1 t.val) ∗ owesE c (rem c (owed t.val 1)))
      ⊢ iprop(((inst m ρ c 1 (eAt 1 (t.val + 1)) ∗ owesE c (rem c (owed t.val (1 + 1)))) -∗ wpc c R Q) -∗ wpc c (panel1 c t R) Q) := by
  unfold panel1
  by_cases h1 : k0_cond4 t = 1#1
  · obtain ⟨ha, hb⟩ := (cond_1 t).mp h1
    have hn : t.val - 1 < 10 := by omega
    rw [dif_pos h1, show eAt 1 t.val = t.val - 1 from Nat.min_eq_left hn.le, show eAt 1 (t.val + 1) = t.val - 1 + 1 from by
      unfold eAt; show min (t.val + 1 - 1) 10 = _; omega]
    have hl : owed t.val (1 + 1) 1 = 9 - (t.val - 1 + 1) := (owed_self' t.val 1).trans (by show 9 - (t.val + 1 - 1) = _; omega)
    have hva : wAsc (wDev c) (wEx t 1#32) = asc c (t.val - 1) := by rw [wEx, word_1 t h1, wAsc_eq, ex_val hn]
    have hvk : wKeep (wDev c) (wEx t 1#32) = keep c (t.val - 1) := by rw [wEx, word_1 t h1, wKeep_eq, ex_val hn]
    have hve : wEnd (wEx t 1#32) = if bOf (t.val - 1) = 0 then 1#1 else 0#1 := by rw [wEx, word_1 t h1, wEnd_eq, ex_val hn]
    have h := exch_step (F := F) m ρ K c 1 Q (t.val - 1) hn (owed t.val 1) (owed t.val (1 + 1)) (owed_self t.val 1) hl (owed_ne t.val 1) (owed_order t.val 1 ha)
      (wordW 1) (storeW 1) (k0_off9 t) (k0_off10 t) (k0_off9_inb t h1) (k0_off10_inb t h1) (offP_1 t h1) (offL_1 t h1)
      (((Memref.isWhole_whole cc0_scratch1).wordExact_slice rfl _ (k0_off9_wordsbf16 t h1)).reshape _ _)
      (sAt (k0_off8 t) (k0_off8_inb t h1)) (rAt (k0_off8 t) (k0_off8_inb t h1)) (sem_send 1 _ _ (offS_1 t h1) _) (sem_recv 1 _ _ (offS_1 t h1) _)
      _ _ _ hva hvk hve (k0_cond6 t = 1#1) (more_1 t h1) (fun h3 => start1 c t h1 h3) R
      (fun h3 hn' Q' => start1_step (F := F) m ρ K c t h1 h3 ha hn' Q')
    iintro H Hk
    iapply h $$ H
    iexact Hk
  · rw [dif_neg h1]
    iintro ⟨-, -, H⟩
    iapply (idle (F := F) m ρ c 1 t.val (fun h => h1 ((cond_1 t).mpr h)) R Q); iexact H

theorem start2_step (c : Dev nD) (t : Fin k0_t2_loop.trips) (h1 : k0_cond7 t = 1#1) (h3 : k0_cond9 t = 1#1) (ha : 2 ≤ t.val)
    (hn : t.val - 2 + 1 < 10) (Q : Unit → sProp 𝕄) :
    iprop(recs m ρ K ∗ wSlot c 2 (Wk m ρ 2 (t.val - 2 + 1) c) ∗ todoR c 2 (10 - (t.val - 2 + 1)) ∗ owesE c (rem c (owed t.val 2)))
      ⊢ iprop(((pend m ρ c 2 (t.val - 2 + 1) ∗ todoR c 2 (9 - (t.val - 2 + 1)) ∗ owesE c (rem c (owed t.val (2 + 1)))) -∗ Q ⟨⟩)
        -∗ wpc c (start2 c t h1 h3) Q) := by
  unfold start2
  iintro H Hk
  iapply (send_inst (F := F) m ρ K c 2 Q (t.val - 2 + 1) hn (owed t.val 2) (owed t.val (2 + 1))
    ((owed_self t.val 2).trans (by show 9 - (t.val - 2) = _; omega)) ((owed_self' t.val 2).trans (by show 9 - (t.val + 1 - 2) = _; omega)) (owed_ne t.val 2)
    _ (Fin.ext (to_2 c t h1 h3)) _ (offQ_2 t h1 h3) _ _ _ (sem_send 2 _ _ (offN_2 t h1 h3) _) (sem_recv 2 _ _ (offN_2 t h1 h3) _)) $$ H
  iintro H
  unfold wpc; rw [wp_ret]; imodintro
  iapply Hk; iexact H

/-- Panel 2 in trip `t`. -/
theorem panel2_step (c : Dev nD) (t : Fin k0_t2_loop.trips) (R : Pg Unit) (Q : Unit → sProp 𝕄) :
    iprop(recs m ρ K ∗ levAts L lv ∗ inst m ρ c 2 (eAt 2 t.val) ∗ owesE c (rem c (owed t.val 2)))
      ⊢ iprop(((inst m ρ c 2 (eAt 2 (t.val + 1)) ∗ owesE c (rem c (owed t.val (2 + 1)))) -∗ wpc c R Q) -∗ wpc c (panel2 c t R) Q) := by
  unfold panel2
  by_cases h1 : k0_cond7 t = 1#1
  · obtain ⟨ha, hb⟩ := (cond_2 t).mp h1
    have hn : t.val - 2 < 10 := by omega
    rw [dif_pos h1, show eAt 2 t.val = t.val - 2 from Nat.min_eq_left hn.le, show eAt 2 (t.val + 1) = t.val - 2 + 1 from by
      unfold eAt; show min (t.val + 1 - 2) 10 = _; omega]
    have hl : owed t.val (2 + 1) 2 = 9 - (t.val - 2 + 1) := (owed_self' t.val 2).trans (by show 9 - (t.val + 1 - 2) = _; omega)
    have hva : wAsc (wDev c) (wEx t 2#32) = asc c (t.val - 2) := by rw [wEx, word_2 t h1, wAsc_eq, ex_val hn]
    have hvk : wKeep (wDev c) (wEx t 2#32) = keep c (t.val - 2) := by rw [wEx, word_2 t h1, wKeep_eq, ex_val hn]
    have hve : wEnd (wEx t 2#32) = if bOf (t.val - 2) = 0 then 1#1 else 0#1 := by rw [wEx, word_2 t h1, wEnd_eq, ex_val hn]
    have h := exch_step (F := F) m ρ K c 2 Q (t.val - 2) hn (owed t.val 2) (owed t.val (2 + 1)) (owed_self t.val 2) hl (owed_ne t.val 2) (owed_order t.val 2 ha)
      (wordW 2) (storeW 2) (k0_off14 t) (k0_off15 t) (k0_off14_inb t h1) (k0_off15_inb t h1) (offP_2 t h1) (offL_2 t h1)
      (((Memref.isWhole_whole cc0_scratch1).wordExact_slice rfl _ (k0_off14_wordsbf16 t h1)).reshape _ _)
      (sAt (k0_off13 t) (k0_off13_inb t h1)) (rAt (k0_off13 t) (k0_off13_inb t h1)) (sem_send 2 _ _ (offS_2 t h1) _) (sem_recv 2 _ _ (offS_2 t h1) _)
      _ _ _ hva hvk hve (k0_cond9 t = 1#1) (more_2 t h1) (fun h3 => start2 c t h1 h3) R
      (fun h3 hn' Q' => start2_step (F := F) m ρ K c t h1 h3 ha hn' Q')
    iintro H Hk
    iapply h $$ H
    iexact Hk
  · rw [dif_neg h1]
    iintro ⟨-, -, H⟩
    iapply (idle (F := F) m ρ c 2 t.val (fun h => h1 ((cond_2 t).mpr h)) R Q); iexact H

theorem start3_step (c : Dev nD) (t : Fin k0_t2_loop.trips) (h1 : k0_cond10 t = 1#1) (h3 : k0_cond12 t = 1#1) (ha : 3 ≤ t.val)
    (hn : t.val - 3 + 1 < 10) (Q : Unit → sProp 𝕄) :
    iprop(recs m ρ K ∗ wSlot c 3 (Wk m ρ 3 (t.val - 3 + 1) c) ∗ todoR c 3 (10 - (t.val - 3 + 1)) ∗ owesE c (rem c (owed t.val 3)))
      ⊢ iprop(((pend m ρ c 3 (t.val - 3 + 1) ∗ todoR c 3 (9 - (t.val - 3 + 1)) ∗ owesE c (rem c (owed t.val (3 + 1)))) -∗ Q ⟨⟩)
        -∗ wpc c (start3 c t h1 h3) Q) := by
  unfold start3
  iintro H Hk
  iapply (send_inst (F := F) m ρ K c 3 Q (t.val - 3 + 1) hn (owed t.val 3) (owed t.val (3 + 1))
    ((owed_self t.val 3).trans (by show 9 - (t.val - 3) = _; omega)) ((owed_self' t.val 3).trans (by show 9 - (t.val + 1 - 3) = _; omega)) (owed_ne t.val 3)
    _ (Fin.ext (to_3 c t h1 h3)) _ (offQ_3 t h1 h3) _ _ _ (sem_send 3 _ _ (offN_3 t h1 h3) _) (sem_recv 3 _ _ (offN_3 t h1 h3) _)) $$ H
  iintro H
  unfold wpc; rw [wp_ret]; imodintro
  iapply Hk; iexact H

/-- Panel 3 in trip `t`. -/
theorem panel3_step (c : Dev nD) (t : Fin k0_t2_loop.trips) (R : Pg Unit) (Q : Unit → sProp 𝕄) :
    iprop(recs m ρ K ∗ levAts L lv ∗ inst m ρ c 3 (eAt 3 t.val) ∗ owesE c (rem c (owed t.val 3)))
      ⊢ iprop(((inst m ρ c 3 (eAt 3 (t.val + 1)) ∗ owesE c (rem c (owed t.val (3 + 1)))) -∗ wpc c R Q) -∗ wpc c (panel3 c t R) Q) := by
  unfold panel3
  by_cases h1 : k0_cond10 t = 1#1
  · obtain ⟨ha, hb⟩ := (cond_3 t).mp h1
    have hn : t.val - 3 < 10 := by omega
    rw [dif_pos h1, show eAt 3 t.val = t.val - 3 from Nat.min_eq_left hn.le, show eAt 3 (t.val + 1) = t.val - 3 + 1 from by
      unfold eAt; show min (t.val + 1 - 3) 10 = _; omega]
    have hl : owed t.val (3 + 1) 3 = 9 - (t.val - 3 + 1) := (owed_self' t.val 3).trans (by show 9 - (t.val + 1 - 3) = _; omega)
    have hva : wAsc (wDev c) (wEx t 3#32) = asc c (t.val - 3) := by rw [wEx, word_3 t h1, wAsc_eq, ex_val hn]
    have hvk : wKeep (wDev c) (wEx t 3#32) = keep c (t.val - 3) := by rw [wEx, word_3 t h1, wKeep_eq, ex_val hn]
    have hve : wEnd (wEx t 3#32) = if bOf (t.val - 3) = 0 then 1#1 else 0#1 := by rw [wEx, word_3 t h1, wEnd_eq, ex_val hn]
    have h := exch_step (F := F) m ρ K c 3 Q (t.val - 3) hn (owed t.val 3) (owed t.val (3 + 1)) (owed_self t.val 3) hl (owed_ne t.val 3) (owed_order t.val 3 ha)
      (wordW 3) (storeW 3) (k0_off19 t) (k0_off20 t) (k0_off19_inb t h1) (k0_off20_inb t h1) (offP_3 t h1) (offL_3 t h1)
      (((Memref.isWhole_whole cc0_scratch1).wordExact_slice rfl _ (k0_off19_wordsbf16 t h1)).reshape _ _)
      (sAt (k0_off18 t) (k0_off18_inb t h1)) (rAt (k0_off18 t) (k0_off18_inb t h1)) (sem_send 3 _ _ (offS_3 t h1) _) (sem_recv 3 _ _ (offS_3 t h1) _)
      _ _ _ hva hvk hve (k0_cond12 t = 1#1) (more_3 t h1) (fun h3 => start3 c t h1 h3) R
      (fun h3 hn' Q' => start3_step (F := F) m ρ K c t h1 h3 ha hn' Q')
    iintro H Hk
    iapply h $$ H
    iexact Hk
  · rw [dif_neg h1]
    iintro ⟨-, -, H⟩
    iapply (idle (F := F) m ρ c 3 t.val (fun h => h1 ((cond_3 t).mpr h)) R Q); iexact H

end

end Cert.Mesh

end
-- ==== Proof.First.lean ====
/-
# `First`: the first loop

Trip `i` of the first loop loads panel `i` of the input block, sorts its rows and stores them in slot `i` of the working
buffer. After the loop the four slots hold every panel as it is before the first exchange.
-/
module

public import proofs.«01_k».proof.Proof.Trip

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}

local notation "𝕄" => MT nD τ sig Unit (Elt F) ℕ UU ℕ
local notation "Pg" => Prog (TpuEff nD τ sig (Elt F) Λ₀ Proc.tc)

theorem off1_eq : ∀ t : Fin k0_t1_loop.trips, k0_off1 t = ![0, 128 * t.val] := by decide +kernel
theorem off2_eq : ∀ t : Fin k0_t1_loop.trips, k0_off2 t = ![t.val, 0, 0] := by decide +kernel
theorem trips1 : k0_t1_loop.trips = 4 := by decide +kernel

set_option maxRecDepth 65536 in
/-- One trip of the first loop, its middle named: the panel's rows sorted. -/
theorem first_eq (c : Dev nD) (t : Fin k0_t1_loop.trips) (u : Unit) :
    k0_t1_body (F := F) xM (Memref.isWhole_whole _) oM (Memref.isWhole_whole _) wM (Memref.isWhole_whole _) pM (Memref.isWhole_whole _) cc0_scratch2 cc0_scratch3 c t u
      = .op (.load xM (Rect.unit (s := S2048x512) (k0_off1 t) S2048x128.size (k0_off1_inb t)).toLoadRect (View.loadsAt_vmem h_S2048x128)) fun v86 =>
        .op (.load wM (Rect.unit (s := S4x2048x128) (k0_off2 t) S1x2048x128.size (k0_off2_inb t)).toLoadRect (View.loadsAt_vmem h_S1x2048x128)) fun _ =>
        .op (.store wM (Rect.unit (s := S4x2048x128) (k0_off2 t) S1x2048x128.size (k0_off2_inb t)) (presort c v86) Finset.univ
          (View.stores_vmem h_S1x2048x128 ((Memref.isWhole_whole _).storeExact_slice rfl _ (k0_off2_packedbf16 t)) (fun _ => rfl)) (.inl rfl)) fun _ => .ret ⟨⟩ := rfl

section
variable (m : (ℓ : Loc nD τ sig) → Buf (Elt F) ℓ) (ρ : Dev nD → PrngReg)

/-- Device `c` holds its block of the input, staged. -/
def xPts (c : Dev nD) : sProp 𝕄 := iprop((c : Thread nD τ).loc cc0_stg0_0 ↦{fullShare} (xstg m ρ c))

/-- Slot `i` of the working buffer before trip `k` of the first loop. -/
def slot1 (c : Dev nD) (k : ℕ) (i : Fin 4) : sProp 𝕄 :=
  if i.val < k then wSlot c i (Wk m ρ i 0 c) else iprop(∃ X, wSlot c i X)

/-- The four slots before trip `k`. -/
def slots1 (c : Dev nD) (k : ℕ) : sProp 𝕄 := bigSep Finset.univ fun i : Fin 4 => slot1 m ρ c k i

theorem slots1_start (c : Dev nD) : slots1 m ρ c 0 = bigSep Finset.univ fun i : Fin 4 => iprop(∃ X, wSlot (F := F) c i X) :=
  bigSep_congr fun i _ => by unfold slot1; rw [if_neg (Nat.not_lt_zero _)]
theorem slots1_end (c : Dev nD) : slots1 m ρ c 4 = bigSep Finset.univ fun i : Fin 4 => wSlot c i (Wk m ρ i 0 c) :=
  bigSep_congr fun i _ => by unfold slot1; rw [if_pos i.isLt]

theorem load_x (c : Dev nD) (Q : α → sProp 𝕄) (i : Fin 4) (off : Fin 2 → ℕ) (ho : off = ![0, 128 * i.val]) (inb : ∀ a, off a + S2048x128.size a ≤ S2048x512.size a)
    {hl} {k : Vec F S2048x128 .bf16 → Pg α} :
    xPts m ρ c ⊢ iprop((xPts m ρ c -∗ wpc c (k (xpan m ρ i c)) Q)
      -∗ wpc c (.op (.load xM (Rect.unit (s := S2048x512) off S2048x128.size inb).toLoadRect hl) k) Q) := by
  subst ho
  unfold xPts
  iintro Hx Hk
  iapply (wp_load_rect 𝒱₀ (c : Thread nD τ) none Set.univ (m := xM) (r := xr i) (Finset.subset_univ _)) $$ Hx
  iintro Hx
  iapply Hk; iexact Hx

/-- One trip of the first loop fills its slot. -/
theorem first_step (c : Dev nD) (Q : Unit → sProp 𝕄) (i : Fin 4) (t : Fin k0_t1_loop.trips) (ht : t.val = i.val) (u : Unit) :
    iprop(xPts m ρ c ∗ ∃ X, wSlot c i X)
      ⊢ iprop(((xPts m ρ c ∗ wSlot c i (Wk m ρ i 0 c)) -∗ Q ⟨⟩)
        -∗ wpc c (k0_t1_body xM (Memref.isWhole_whole _) oM (Memref.isWhole_whole _) wM (Memref.isWhole_whole _) pM (Memref.isWhole_whole _) cc0_scratch2 cc0_scratch3 c t u) Q) := by
  rw [first_eq]
  iintro ⟨Hx, %X, Hw⟩ Hk
  iapply (load_x (F := F) m ρ c Q i (k0_off1 t) ((off1_eq t).trans (by rw [ht])) _) $$ Hx
  iintro Hx
  iapply (load_w (F := F) c i Q (k0_off2 t) ((off2_eq t).trans (by rw [ht])) _) $$ Hw
  iintro Hw
  iapply (store_w (F := F) c i Q (k0_off2 t) ((off2_eq t).trans (by rw [ht])) _) $$ Hw
  iintro Hw
  unfold wpc; rw [wp_ret]; imodintro
  iapply Hk
  isplitl [Hx]; · iexact Hx
  iexact Hw

/-- The first loop fills the four slots. -/
theorem first_loop (c : Dev nD) (Q : α → sProp 𝕄) (kk : Unit → Pg α) :
    iprop(xPts m ρ c ∗ slots1 m ρ c 0)
      ⊢ iprop(((xPts m ρ c ∗ slots1 m ρ c 4) -∗ wpc c (kk ⟨⟩) Q)
        -∗ wpc c (Scf.Loop.for k0_t1_loop k0_t1_ok ⟨⟩ (k0_t1_body xM (Memref.isWhole_whole _) oM (Memref.isWhole_whole _) wM (Memref.isWhole_whole _) pM (Memref.isWhole_whole _) cc0_scratch2 cc0_scratch3 c) >>= kk) Q) := by
  have hstep : ∀ (t : Fin (Scf.trips k0_t1_loop.lb k0_t1_loop.ub k0_t1_loop.st)) (u : Unit),
      iprop(xPts m ρ c ∗ slots1 m ρ c t.val) ⊢ wp frame (wpE (defs₀ (F := F)) 𝒱₀ (c : Thread nD τ) none) Set.univ
        (k0_t1_body xM (Memref.isWhole_whole _) oM (Memref.isWhole_whole _) wM (Memref.isWhole_whole _) pM (Memref.isWhole_whole _) cc0_scratch2 cc0_scratch3 c t u)
        fun _ => iprop(xPts m ρ c ∗ slots1 m ρ c (t.val + 1)) := by
    intro t u
    have ht4 : t.val < 4 := lt_of_lt_of_eq t.isLt trips1
    have hi : t.val = (⟨t.val, ht4⟩ : Fin 4).val := rfl
    generalize (⟨t.val, ht4⟩ : Fin 4) = i at hi
    have h := first_step (F := F) m ρ c (fun _ => iprop(xPts m ρ c ∗ slots1 m ρ c (t.val + 1))) i t hi u
    unfold slots1 at h ⊢
    rw [bigSep_univ_at (fun j => slot1 m ρ c t.val j) i, show slot1 m ρ c t.val i = iprop(∃ X, wSlot (F := F) c i X) from if_neg (by omega)]
    rw [bigSep_univ_at (fun j => slot1 m ρ c (t.val + 1) j) i, show slot1 m ρ c (t.val + 1) i = wSlot c i (Wk m ρ i 0 c) from if_pos (by omega)] at h ⊢
    have hr : bigSep (Finset.univ.erase i) (fun j => slot1 m ρ c t.val j) = bigSep (Finset.univ.erase i) (fun j => slot1 m ρ c (t.val + 1) j) :=
      bigSep_congr fun j hj => by
        have hne : j.val ≠ i.val := fun e => Finset.ne_of_mem_erase hj (Fin.ext e)
        unfold slot1
        by_cases hlt : j.val < t.val
        · rw [if_pos hlt, if_pos (by omega)]
        · rw [if_neg hlt, if_neg (by omega)]
    rw [hr]
    iintro ⟨Hx, Hs, Hr⟩
    iapply h $$ [Hx Hs]
    · isplitl [Hx] <;> iassumption
    · iintro ⟨Hx, Hs⟩
      isplitl [Hx]; · iexact Hx
      isplitl [Hs] <;> iassumption
  have h := Scf.wp_for_bind frame (wpE (defs₀ (F := F)) 𝒱₀ (c : Thread nD τ) none) Set.univ k0_t1_loop.lb k0_t1_loop.ub k0_t1_loop.st k0_t1_ok ()
    (k0_t1_body xM (Memref.isWhole_whole _) oM (Memref.isWhole_whole _) wM (Memref.isWhole_whole _) pM (Memref.isWhole_whole _) cc0_scratch2 cc0_scratch3 c)
    (fun k _ => iprop(xPts m ρ c ∗ slots1 m ρ c k)) hstep (kk := kk) (Q := Q)
  rw [show Scf.trips k0_t1_loop.lb k0_t1_loop.ub k0_t1_loop.st = 4 from trips1] at h
  iintro H Hk
  iapply h $$ H
  iintro %u H
  iapply Hk; iexact H

end

end Cert.Mesh

end
-- ==== Proof.Slots.lean ====
/-
# `Slots`: the buffers cut into slots, and the output written

The working buffer is its four slots, the landing buffer its forty; a device's landing slots sort into those each of the
four other devices writes. The output block is written panel by panel; together the four stores leave `outAt`.
-/
module

public import proofs.«01_k».proof.Proof.First
public import Idealize.ShloMosaic.Lib.Writes
public import Idealize.ShloMosaic.Lib.Ring
public import Idealize.ShloMosaic.Lib.Pointwise.Index

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}

local notation "𝕄" => MT nD τ sig Unit (Elt F) ℕ UU ℕ
local notation "Pg" => Prog (TpuEff nD τ sig (Elt F) Λ₀ Proc.tc)

/-! ## The working buffer's four slots -/

theorem wr_mem (i : Fin 4) (y : S4x2048x128.Idx) : y ∈ (wr i).set ↔ (y 0).val = i.val := by
  rw [LoadRect.mem_set]
  constructor
  · intro h
    obtain ⟨j, hj, he⟩ := h 0
    have hj' : j < 1 := hj
    have he' : (y 0).val = i.val + 1 * j := he
    omega
  · intro h a
    have h1 : (y 1).val < 2048 := (y 1).isLt
    have h2 : (y 2).val < 128 := (y 2).isLt
    match a with
    | 0 => exact ⟨0, Nat.one_pos, by show (y 0).val = i.val + 1 * 0; omega⟩
    | 1 => exact ⟨(y 1).val, h1, by show (y 1).val = 0 + 1 * (y 1).val; omega⟩
    | 2 => exact ⟨(y 2).val, h2, by show (y 2).val = 0 + 1 * (y 2).val; omega⟩

theorem wr_disjoint (i i' : Fin 4) (h : i ≠ i') : Disjoint (wr i).set (wr i').set :=
  Finset.disjoint_left.mpr fun y hy hy' => h (Fin.ext (((wr_mem i y).mp hy).symm.trans ((wr_mem i' y).mp hy')))
theorem wr_cover : (Finset.univ : Finset (Fin 4)).biUnion (fun i => (wr i).set) = Finset.univ :=
  Finset.eq_univ_iff_forall.mpr fun y => Finset.mem_biUnion.mpr ⟨⟨(y 0).val, (y 0).isLt⟩, Finset.mem_univ _, (wr_mem _ y).mpr rfl⟩

/-- Slot `i` as a set of places of device `c`'s working buffer. -/
def wI (c : Dev nD) (i : Fin 4) : Finset (Idx ((c : Thread nD τ).loc cc0_scratch0)) := (wr i).set
theorem wI_disjoint (c : Dev nD) (i i' : Fin 4) (h : i ≠ i') : Disjoint (wI c i) (wI c i') := wr_disjoint i i' h
theorem wI_cover (c : Dev nD) : (Finset.univ : Finset (Fin 4)).biUnion (wI c) = Finset.univ := wr_cover

omit [FloatOps F] in
theorem w_split (c : Dev nD) : iprop(∃ f : Buf (Elt F) ((c : Thread nD τ).loc cc0_scratch0), ((c : Thread nD τ).loc cc0_scratch0) ↦{fullShare} f)
    ⊢ (bigSep Finset.univ fun i : Fin 4 => iprop(∃ X, wSlot (F := F) c i X) : sProp 𝕄) := by
  iintro ⟨%f, H⟩
  have h (i : Fin 4) : ((c : Thread nD τ).loc cc0_scratch0 ↦[wI c i]{fullShare} f : sProp 𝕄) ⊢ iprop(∃ X, wSlot (F := F) c i X) := by
    unfold wSlot wI
    iintro H
    iexists _; iexists f
    isplitr; · ipureintro; rfl
    iexact H
  have h' : ((c : Thread nD τ).loc cc0_scratch0 ↦{fullShare} f : sProp 𝕄) ⊢ (bigSep Finset.univ fun i : Fin 4 => iprop(∃ X, wSlot (F := F) c i X) : sProp 𝕄) :=
    (Entails.of_eq (Ring.pointsTo_blocks (wI c) (wI_disjoint c) (wI_cover c) f)).trans (bigSep_mono fun i _ => h i)
  iapply h' $$ H

omit [FloatOps F] in
theorem wSlot_blk (c : Dev nD) (i : Fin 4) : iprop(∃ X, wSlot (F := F) c i X)
    ⊢ (iprop(∃ f : Buf (Elt F) ((c : Thread nD τ).loc cc0_scratch0), ((c : Thread nD τ).loc cc0_scratch0 ↦[wI c i]{fullShare} f)) : sProp 𝕄) := by
  unfold wSlot wI
  iintro ⟨%X, %f, -, H⟩
  iexists f; iexact H

omit [FloatOps F] in
theorem w_join (c : Dev nD) : (bigSep Finset.univ fun i : Fin 4 => iprop(∃ X, wSlot (F := F) c i X) : sProp 𝕄)
    ⊢ iprop(∃ f : Buf (Elt F) ((c : Thread nD τ).loc cc0_scratch0), ((c : Thread nD τ).loc cc0_scratch0) ↦{fullShare} f) := by
  refine (bigSep_mono fun i _ => wSlot_blk c i).trans ?_
  by_cases hne : Nonempty (Buf (Elt F) ((c : Thread nD τ).loc cc0_scratch0))
  · obtain ⟨f₀⟩ := hne
    exact Ring.pointsTo_blocks_join_exists (wI c) (wI_disjoint c) (wI_cover c) f₀
  · rw [bigSep_univ_at _ (0 : Fin 4)]
    show (_ : sProp 𝕄) ⊢ _
    iintro ⟨⟨%f, H⟩, -⟩
    exact absurd ⟨f⟩ hne

/-! ## The landing buffer's forty slots -/

theorem pr_mem (i : Fin 4) (e : Fin 10) (y : S4x10x2048x128.Idx) : y ∈ (pr i e).set ↔ (y 0).val = i.val ∧ (y 1).val = e.val := by
  rw [LoadRect.mem_set]
  constructor
  · intro h
    obtain ⟨j, hj, he⟩ := h 0
    obtain ⟨j', hj', he'⟩ := h 1
    have hj1 : j < 1 := hj
    have hj1' : j' < 1 := hj'
    have he1 : (y 0).val = i.val + 1 * j := he
    have he1' : (y 1).val = e.val + 1 * j' := he'
    omega
  · rintro ⟨h, h'⟩ a
    have h2 : (y 2).val < 2048 := (y 2).isLt
    have h3 : (y 3).val < 128 := (y 3).isLt
    match a with
    | 0 => exact ⟨0, Nat.one_pos, by show (y 0).val = i.val + 1 * 0; omega⟩
    | 1 => exact ⟨0, Nat.one_pos, by show (y 1).val = e.val + 1 * 0; omega⟩
    | 2 => exact ⟨(y 2).val, h2, by show (y 2).val = 0 + 1 * (y 2).val; omega⟩
    | 3 => exact ⟨(y 3).val, h3, by show (y 3).val = 0 + 1 * (y 3).val; omega⟩

theorem pr_disjoint (p p' : Fin 4 × Fin 10) (h : p ≠ p') : Disjoint (pr p.1 p.2).set (pr p'.1 p'.2).set :=
  Finset.disjoint_left.mpr fun y hy hy' => h (Prod.ext
    (Fin.ext (((pr_mem _ _ y).mp hy).1.symm.trans ((pr_mem _ _ y).mp hy').1)) (Fin.ext (((pr_mem _ _ y).mp hy).2.symm.trans ((pr_mem _ _ y).mp hy').2)))
theorem pr_cover : (Finset.univ : Finset (Fin 4 × Fin 10)).biUnion (fun p => (pr p.1 p.2).set) = Finset.univ :=
  Finset.eq_univ_iff_forall.mpr fun y => Finset.mem_biUnion.mpr ⟨(⟨(y 0).val, (y 0).isLt⟩, ⟨(y 1).val, (y 1).isLt⟩), Finset.mem_univ _, (pr_mem _ _ y).mpr ⟨rfl, rfl⟩⟩

/-- Slot `(i, e)` as a set of places of device `c`'s landing buffer. -/
def pI (c : Dev nD) (p : Fin 4 × Fin 10) : Finset (Idx ((c : Thread nD τ).loc cc0_scratch1)) := (pr p.1 p.2).set
theorem pI_disjoint (c : Dev nD) (p p' : Fin 4 × Fin 10) (h : p ≠ p') : Disjoint (pI c p) (pI c p') := pr_disjoint p p' h
theorem pI_cover (c : Dev nD) : (Finset.univ : Finset (Fin 4 × Fin 10)).biUnion (pI c) = Finset.univ := pr_cover

omit [FloatOps F] in
theorem p_split (c : Dev nD) : iprop(∃ f : Buf (Elt F) ((c : Thread nD τ).loc cc0_scratch1), ((c : Thread nD τ).loc cc0_scratch1) ↦{fullShare} f)
    ⊢ (bigSep Finset.univ fun i : Fin 4 => bigSep Finset.univ fun e : Fin 10 => pAny (F := F) c i e : sProp 𝕄) := by
  rw [← bigSep_univ_prod (fun p : Fin 4 × Fin 10 => (pAny (F := F) c p.1 p.2 : sProp 𝕄))]
  iintro ⟨%f, H⟩
  have h (p : Fin 4 × Fin 10) : ((c : Thread nD τ).loc cc0_scratch1 ↦[pI c p]{fullShare} f : sProp 𝕄) ⊢ pAny (F := F) c p.1 p.2 := by
    unfold pAny pI
    iintro H
    iexists f; iexact H
  have h' : ((c : Thread nD τ).loc cc0_scratch1 ↦{fullShare} f : sProp 𝕄) ⊢ (bigSep Finset.univ fun p : Fin 4 × Fin 10 => pAny (F := F) c p.1 p.2 : sProp 𝕄) :=
    (Entails.of_eq (Ring.pointsTo_blocks (pI c) (pI_disjoint c) (pI_cover c) f)).trans (bigSep_mono fun p _ => h p)
  iapply h' $$ H

omit [FloatOps F] in
theorem p_join (c : Dev nD) : (bigSep Finset.univ fun i : Fin 4 => bigSep Finset.univ fun e : Fin 10 => pAny (F := F) c i e : sProp 𝕄)
    ⊢ iprop(∃ f : Buf (Elt F) ((c : Thread nD τ).loc cc0_scratch1), ((c : Thread nD τ).loc cc0_scratch1) ↦{fullShare} f) := by
  rw [← bigSep_univ_prod (fun p : Fin 4 × Fin 10 => (pAny (F := F) c p.1 p.2 : sProp 𝕄))]
  refine (bigSep_mono fun p _ => (show pAny (F := F) c p.1 p.2
    ⊢ (iprop(∃ f : Buf (Elt F) ((c : Thread nD τ).loc cc0_scratch1), ((c : Thread nD τ).loc cc0_scratch1 ↦[pI c p]{fullShare} f)) : sProp 𝕄) from Entails.of_eq rfl)).trans ?_
  by_cases hne : Nonempty (Buf (Elt F) ((c : Thread nD τ).loc cc0_scratch1))
  · obtain ⟨f₀⟩ := hne
    exact Ring.pointsTo_blocks_join_exists (pI c) (pI_disjoint c) (pI_cover c) f₀
  · rw [bigSep_univ_at _ ((0, 0) : Fin 4 × Fin 10)]
    show (_ : sProp 𝕄) ⊢ _
    iintro ⟨⟨%f, H⟩, -⟩
    exact absurd ⟨f⟩ hne

omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem sep_regroup (P Q R : sProp 𝕄) : iprop((P ∗ Q) ∗ R) = iprop(P ∗ Q ∗ R) :=
  BI.equiv_iff.mp ⟨Idealize.SL.BI.sep_assoc, Idealize.SL.BI.sep_assoc'⟩

omit [FloatOps F] in
/-- Ten landing slots of a panel, one per exchange, sorted by the bit the exchange flips. -/
theorem slots_by_bit (g : Fin 4 → Dev nD) (i : Fin 4) :
    (bigSep Finset.univ fun e : Fin 10 => pAny (F := F) (g (bOf e.val)) i e : sProp 𝕄) = bigSep Finset.univ fun b : Fin 4 => slotsOf (g b) b i := by
  rw [bigSep_four, bigSep_univ_eq_bigSepL [0, 2, 5, 9, 1, 4, 8, 3, 7, 6] (by decide) (by decide) (fun e : Fin 10 => (pAny (F := F) (g (bOf e.val)) i e : sProp 𝕄))]
  show iprop(pAny (F := F) (g 0) i 0 ∗ pAny (g 0) i 2 ∗ pAny (g 0) i 5 ∗ pAny (g 0) i 9 ∗ pAny (g 1) i 1 ∗ pAny (g 1) i 4 ∗ pAny (g 1) i 8 ∗ pAny (g 2) i 3 ∗ pAny (g 2) i 7 ∗ pAny (g 3) i 6)
    = iprop((pAny (F := F) (g 0) i 0 ∗ pAny (g 0) i 2 ∗ pAny (g 0) i 5 ∗ pAny (g 0) i 9) ∗ (pAny (g 1) i 1 ∗ pAny (g 1) i 4 ∗ pAny (g 1) i 8) ∗ (pAny (g 2) i 3 ∗ pAny (g 2) i 7) ∗ pAny (g 3) i 6)
  simp only [sep_regroup]

omit [FloatOps F] in
/-- The landing slots a device hands over in its four signals, or is handed: panel by panel, or device by device. -/
theorem slots_by_duty (g : Fin 4 → Dev nD) :
    (bigSep Finset.univ fun i : Fin 4 => bigSep Finset.univ fun e : Fin 10 => pAny (F := F) (g (bOf e.val)) i e : sProp 𝕄)
      = bigSep Finset.univ fun b : Fin 4 => bigSep Finset.univ fun i : Fin 4 => slotsOf (g b) b i := by
  rw [← bigSep_univ_prod (fun p : Fin 4 × Fin 4 => (slotsOf (F := F) (g p.1) p.1 p.2 : sProp 𝕄)), bigSep_univ_equiv (Equiv.prodComm (Fin 4) (Fin 4)), bigSep_univ_prod]
  exact bigSep_congr fun i _ => slots_by_bit g i

/-! ## The output -/

section
variable (m : (ℓ : Loc nD τ sig) → Buf (Elt F) ℓ) (ρ : Dev nD → PrngReg)

/-- Device `c`'s output block: at column `128 i + k` the widened column `k` of panel `i` after the ten exchanges. -/
def outAt (c : Dev nD) : (cc0_stg1_0 : Ref sig .tc).ty.Contents (Elt F) := fun y : S2048x512.Idx =>
  k0_pay92 (Wk m ρ ⟨(y 1).val / 128, Nat.div_lt_of_lt_mul (show (y 1).val < 128 * 4 from (y 1).isLt)⟩ 10 c)
    (ix2 (⟨(y 0).val, (y 0).isLt⟩ : Fin 2048) (⟨(y 1).val % 128, Nat.mod_lt _ (by decide)⟩ : Fin 128))

/-- On panel `i` it is what the kernel stores there. -/
theorem outAt_panel (c : Dev nD) (i : Fin 4) (x : (xr i).shape.Idx) : outAt m ρ c ((xr i).emb x) = k0_pay92 (Wk m ρ i 10 c) x := by
  have h0 : (((xr i).emb x) 0).val = 0 + 1 * (x 0).val := rfl
  have h1 : (((xr i).emb x) 1).val = 128 * i.val + 1 * (x 1).val := rfl
  have hx : (x 1).val < 128 := (x 1).isLt
  have hi : (⟨(((xr i).emb x) 1).val / 128, Nat.div_lt_of_lt_mul (show (((xr i).emb x) 1).val < 128 * 4 from (((xr i).emb x) 1).isLt)⟩ : Fin 4) = i :=
    Fin.ext (by show (((xr i).emb x) 1).val / 128 = i.val; omega)
  unfold outAt
  rw [hi]
  congr 1
  funext a
  match a with
  | 0 => exact Fin.ext (by show (((xr i).emb x) 0).val = (x 0).val; omega)
  | 1 => exact Fin.ext (by show (((xr i).emb x) 1).val % 128 = (x 1).val; omega)

theorem xr_mem (y : S2048x512.Idx) : y ∈ (xr ⟨(y 1).val / 128, Nat.div_lt_of_lt_mul (show (y 1).val < 128 * 4 from (y 1).isLt)⟩).set := by
  rw [LoadRect.mem_set]
  intro a
  match a with
  | 0 => exact ⟨(y 0).val, (y 0).isLt, by show (y 0).val = 0 + 1 * (y 0).val; omega⟩
  | 1 => exact ⟨(y 1).val % 128, Nat.mod_lt _ (by decide), by show (y 1).val = 128 * ((y 1).val / 128) + 1 * ((y 1).val % 128); omega⟩

/-- Storing panel `i` over the output block's contents `f`. -/
def putO (c : Dev nD) (i : Fin 4) (f : (cc0_stg1_0 : Ref sig .tc).ty.Contents (Elt F)) : (cc0_stg1_0 : Ref sig .tc).ty.Contents (Elt F) :=
  (oM.access (xr i) : View sig .tc _ _ _).write (Elt F) f (k0_pay92 (Wk m ρ i 10 c)) Finset.univ

/-- The store of panel `i`, as a piece written over the output block. -/
def piece (c : Dev nD) (i : Fin 4) : View.Piece (Elt F) S2048x512 .f32 := ⟨xr i, k0_pay92 (Wk m ρ i 10 c)⟩

theorem piece_mem (c : Dev nD) (i : Fin 4) : piece m ρ c i ∈ [piece m ρ c 3, piece m ρ c 2, piece m ρ c 1, piece m ρ c 0] := by
  obtain rfl | rfl | rfl | rfl : i = 0 ∨ i = 1 ∨ i = 2 ∨ i = 3 := by revert i; decide
  · exact List.mem_cons_of_mem _ (List.mem_cons_of_mem _ (List.mem_cons_of_mem _ List.mem_cons_self))
  · exact List.mem_cons_of_mem _ (List.mem_cons_of_mem _ List.mem_cons_self)
  · exact List.mem_cons_of_mem _ List.mem_cons_self
  · exact List.mem_cons_self

theorem piece_of_mem (c : Dev nD) (p : View.Piece (Elt F) S2048x512 .f32) (h : p ∈ [piece m ρ c 3, piece m ρ c 2, piece m ρ c 1, piece m ρ c 0]) :
    ∃ i, p = piece m ρ c i := by
  simp only [List.mem_cons, List.not_mem_nil, or_false] at h
  rcases h with h | h | h | h <;> exact ⟨_, h⟩

/-- The four stores leave `outAt`, whatever the buffer held. -/
theorem putO_all (c : Dev nD) (f : (cc0_stg1_0 : Ref sig .tc).ty.Contents (Elt F)) :
    putO m ρ c 3 (putO m ρ c 2 (putO m ρ c 1 (putO m ρ c 0 f))) = outAt m ρ c := by
  have hw : putO m ρ c 3 (putO m ρ c 2 (putO m ρ c 1 (putO m ρ c 0 f)))
      = oM.view.writes (Elt F) f [piece m ρ c 3, piece m ρ c 2, piece m ρ c 1, piece m ρ c 0] := rfl
  have h : oM.view.read (Elt F) (oM.view.writes (Elt F) f [piece m ρ c 3, piece m ρ c 2, piece m ρ c 1, piece m ρ c 0]) = outAt m ρ c :=
    funext fun y => View.read_writes_apply_of_pieces (v := oM.view) f (outAt m ρ c) _
      (fun p hp x => by obtain ⟨i, rfl⟩ := piece_of_mem m ρ c p hp; exact (outAt_panel m ρ c i x).symm) y
      ⟨_, piece_mem m ρ c _, xr_mem y⟩
  have hr : ∀ g : (cc0_stg1_0 : Ref sig .tc).ty.Contents (Elt F), oM.view.read (Elt F) g = g := fun g => View.read_whole cc0_stg1_0 g
  exact hw.trans ((hr _).symm.trans h)

/-- Device `c` holds its output block at contents `f`. -/
def oPts (c : Dev nD) (f : (cc0_stg1_0 : Ref sig .tc).ty.Contents (Elt F)) : sProp 𝕄 := iprop((c : Thread nD τ).loc cc0_stg1_0 ↦{fullShare} f)

/-- Reading slot `i` back and storing it, widened, in panel `i` of the output. -/
theorem put_step (c : Dev nD) (Q : α → sProp 𝕄) (i : Fin 4) (f : (cc0_stg1_0 : Ref sig .tc).ty.Contents (Elt F))
    (off : Fin 3 → ℕ) (ho : off = ![i.val, 0, 0]) (inb : ∀ a, off a + S1x2048x128.size a ≤ S4x2048x128.size a)
    (off' : Fin 2 → ℕ) (ho' : off' = ![0, 128 * i.val]) (inb' : ∀ a, off' a + S2048x128.size a ≤ S2048x512.size a)
    {hl hl' hx hm} {k : PUnit → Pg α} :
    iprop(wSlot c i (Wk m ρ i 10 c) ∗ oPts c f)
      ⊢ iprop(((wSlot c i (Wk m ρ i 10 c) ∗ oPts c (putO m ρ c i f)) -∗ wpc c (k ⟨⟩) Q)
        -∗ wpc c (.op (.load wM (Rect.unit (s := S4x2048x128) off S1x2048x128.size inb).toLoadRect hl) fun v =>
            .op (.load oM (Rect.unit (s := S2048x512) off' S2048x128.size inb').toLoadRect hl') fun _ =>
            .op (.store oM (Rect.unit (s := S2048x512) off' S2048x128.size inb') (k0_pay92 v) Finset.univ hx hm) k) Q) := by
  subst ho'
  iintro ⟨Hw, Ho⟩ Hk
  iapply (load_w (F := F) c i Q off ho inb) $$ Hw
  iintro Hw
  unfold oPts
  iapply (wp_load_rect 𝒱₀ (c : Thread nD τ) none Set.univ (m := oM) (r := xr i) (Finset.subset_univ _)) $$ Ho
  iintro Ho
  iapply (wp_store 𝒱₀ (c : Thread nD τ) none Set.univ (m := oM) (r := xr i) (Mk := Finset.univ) (Finset.subset_univ _)) $$ Ho
  iintro Ho
  iapply Hk
  isplitl [Hw]; · iexact Hw
  unfold putO; iexact Ho

end

end Cert.Mesh

end
-- ==== Proof.Meet.lean ====
/-
# `Meet`: up to the first transfers

A device signals the four devices whose numbers differ from its own in one bit, handing each the landing slots that
device will write; it waits for its own four signals, which bring the slots it will write; and it fills its four working
slots.
-/
module

public import proofs.«01_k».proof.Proof.Slots

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}

local notation "𝕄" => MT nD τ sig Unit (Elt F) ℕ UU ℕ
local notation "Pg" => Prog (TpuEff nD τ sig (Elt F) Λ₀ Proc.tc)

/-! ## What one exchange needs -/

/-- What exchange `n` of panel `i` needs besides the landing slot it writes. -/
def exR (c : Dev nD) (i : Fin 4) (n : ℕ) : sProp 𝕄 :=
  iprop(atPos ER (sendCell c i (ex n)) 0 ∅ 0 ∗ atPos ER (recvCell c i (ex n)) 0 ∅ 0 ∗ cred (tallyAt (recvCell c i (ex n)) () N)
    ∗ dutyTok ER (sendCell c i (ex n)) 0 0 ∗ dutyTok ER (recvCell (peer c n) i (ex n)) 0 0)

omit [FloatOps F] in
theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- What exchange `n` of panel `i` needs. -/
def item (c : Dev nD) (i : Fin 4) (n : ℕ) : sProp 𝕄 :=
  iprop(atPos ER (sendCell c i (ex n)) 0 ∅ 0 ∗ atPos ER (recvCell c i (ex n)) 0 ∅ 0 ∗ cred (tallyAt (recvCell c i (ex n)) () N)
    ∗ dutyTok ER (sendCell c i (ex n)) 0 0 ∗ dutyTok ER (recvCell (peer c n) i (ex n)) 0 0 ∗ pAny (F := F) (peer c n) i (ex n))

/-- With the ten landing slots, that is what the ten exchanges of a panel need. -/
theorem todo_all (c : Dev nD) (i : Fin 4) :
    iprop((bigSep Finset.univ fun e : Fin 10 => exR (F := F) c i e.val) ∗ bigSep Finset.univ fun e : Fin 10 => pAny (F := F) (flip (bOf e.val) c) i e)
      ⊢ todoR (F := F) c i 10 := by
  rw [← bigSep_sep']
  have h (n : ℕ) (e : Fin 10) (he : e = ex n) : iprop(exR (F := F) c i n ∗ pAny (flip (bOf n) c) i e)
      = item c i n := by
    subst he
    unfold exR item
    rw [sep_regroup, sep_regroup, sep_regroup, sep_regroup]
    rfl
  rw [bigSep_congr fun (e : Fin 10) _ => h e.val e (Fin.ext (ex_val e.isLt).symm), bigSep_ten]
  show _ ⊢ iprop(item (F := F) c i 0 ∗ item (F := F) c i 1 ∗ item (F := F) c i 2 ∗ item (F := F) c i 3 ∗ item (F := F) c i 4 ∗ item (F := F) c i 5
    ∗ item (F := F) c i 6 ∗ item (F := F) c i 7 ∗ item (F := F) c i 8 ∗ item (F := F) c i 9 ∗ emp)
  iintro ⟨H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iempintro

section
variable (m : (ℓ : Loc nD τ sig) → Buf (Elt F) ℓ) (ρ : Dev nD → PrngReg) (K : Dev nD × (Unit ⊕ Fin 80) → ℕ)

/-- What device `c` starts from, but for its buffers. -/
def start (c : Dev nD) : sProp 𝕄 :=
  iprop(recs m ρ K ∗ levAts L lv ∗ atPos ER (barCell c) 0 ∅ 0 ∗ cred (tallyAt (barCell c) () 4)
    ∗ (bigSep Finset.univ fun b : Fin 4 => dutyTok ER (barCell (flip b c)) 0 b)
    ∗ bigSep Finset.univ fun i : Fin 4 => bigSep Finset.univ fun e : Fin 10 => exR c i e.val)

/-- What duty `b` of a barrier cell hands over, panel by panel. -/
theorem barPay_eq (c : Dev nD) (b : Fin 4) : (barPay (F := F) c b : sProp 𝕄) = bigSep Finset.univ fun i : Fin 4 => slotsOf (flip b c) b i := by
  rw [bigSep_four]; rfl

/-- The signal to the device that differs in bit `b`. -/
theorem signal_step (c : Dev nD) (Q : α → sProp 𝕄) (b : Fin 4) (d : Dev nD) (hd : d = flip b c) (O O' : CellTallies nD τ sig Unit)
    (hO : O = O' + tallyAt (barCell (flip b c)) () 1) {k : PUnit → Pg α} :
    iprop(recs m ρ K ∗ owesE c O ∗ dutyTok ER (barCell (flip b c)) 0 b ∗ bigSep Finset.univ fun i : Fin 4 => slotsOf c b i)
      ⊢ iprop((owesE c O' -∗ wpc c (k ⟨⟩) Q) -∗ wpc c (.op (.semSignal (d, Proc.tc) barS (1#32 : BitVec 32).toInt) k) Q) := by
  subst hd
  unfold owesE
  iintro ⟨#HR, ⟨%W, HO⟩, Ht, Hs⟩ Hk
  iapply (Rounds.wp_signal 𝒱₀ ER (rd m ρ) (c : Thread nD τ) none (dst := (flip b c : Thread nD τ)) (κ := K (flip b c, .inl ()))
      (d := b) (by rw [duties_bar]; exact Finset.mem_univ _) ((amount_bar m ρ (flip b c) b).trans (by decide)) () O' hO)
    $$ [HO Ht Hs]
  · isplitr; · iapply (inv_at m ρ K (flip b c, .inl ())); iexact HR
    isplitl [HO]; · iexact HO
    isplitl [Ht]; · iexact Ht
    isplitl [Hs]; · rw [payload_bar, barPay_eq, flip_flip]; iexact Hs
    iapply (reached_at m ρ K (flip b c, .inl ())); iexact HR
  iintro HO
  iapply Hk; iexists W; iexact HO

/-- The wait for the four signals. -/
theorem meet_step (c : Dev nD) (Q : α → sProp 𝕄) {k : PUnit → Pg α} :
    iprop(recs m ρ K ∗ levAts L lv ∗ cred (tallyAt (barCell c) () 4) ∗ owesE c (O4 c) ∗ atPos ER (barCell c) 0 ∅ 0)
      ⊢ iprop(((owesE c (O4 c) ∗ semVal (barCell c) 0 ∗ bigSep Finset.univ fun b : Fin 4 => bigSep Finset.univ fun i : Fin 4 => slotsOf (flip b c) b i) -∗ wpc c (k ⟨⟩) Q)
        -∗ wpc c (.op (.semWait barS (4#32 : BitVec 32).toInt) k) Q) := by
  unfold owesE
  iintro ⟨#HR, #Hlev, Hc, ⟨%W, HO⟩, Hat⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := O4 c) (W := W) (R := 0) (m := 0) (T := ∅)
      (by rw [expect_bar]; decide)) $$ [Hc HO Hat]
  · isplitr; · iapply (inv_at m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ (K (c, .inl ()))) (fun h => h) (R := 0 + 1) (duties_later m ρ (barCell c))) $$ [Hat] with Hz
  · isplitr; · iapply (inv_at m ρ K (c, .inl ())); iexact HR
    iexact Hat
  iapply Hk
  isplitl [HO]; · iexists _; iexact HO
  isplitl [Hz]; · iexact Hz
  rw [bigSep_four, ← barPay_eq, ← barPay_eq, ← barPay_eq, ← barPay_eq]
  iexact Hp

/-- What a device holds when the first transfers can start. -/
def ready (c : Dev nD) : sProp 𝕄 :=
  iprop(recs m ρ K ∗ levAts L lv ∗ owesE c (O4 c) ∗ semVal (barCell c) 0 ∗ xPts m ρ c ∗ (bigSep Finset.univ fun i : Fin 4 => wSlot c i (Wk m ρ i 0 c))
    ∗ bigSep Finset.univ fun i : Fin 4 => todoR c i 10)

theorem part40_step (c : Dev nD) (Q : (Σ' (d0 : Dev nD) (v2 : BitVec 32), BitVec 32) → sProp 𝕄) :
    iprop(start m ρ K c ∗ owesE c (O₀ c) ∗ xPts m ρ c ∗ (bigSep Finset.univ fun i : Fin 4 => iprop(∃ X, wSlot (F := F) c i X))
        ∗ bigSep Finset.univ fun i : Fin 4 => bigSep Finset.univ fun e : Fin 10 => pAny c i e)
      ⊢ iprop((ready m ρ K c -∗ Q ⟨c, wDev c, Scalar.xori (wDev c) (Scalar.shli 1#32 0#32)⟩)
        -∗ wpc c (k0_part40 xM (Memref.isWhole_whole _) oM (Memref.isWhole_whole _) wM (Memref.isWhole_whole _) pM (Memref.isWhole_whole _) cc0_scratch2 cc0_scratch3) Q) := by
  rw [k0_part40_eq_skeleton]; unfold k0_part40_skel start
  simp only [semSignalWord, semWaitWord, Prog.lift, Prog.bind_op, Prog.bind_ret, Prog.pure_eq_ret, wp_deviceId]
  rw [slots_by_duty (F := F) (fun _ => c), bigSep_four (fun b : Fin 4 => (dutyTok ER (barCell (flip b c)) 0 b : sProp 𝕄)),
    bigSep_four (fun b : Fin 4 => (bigSep Finset.univ fun i : Fin 4 => slotsOf (F := F) c b i : sProp 𝕄))]
  iintro ⟨⟨#HR, #Hlev, Hat, Hc, ⟨Ht0, Ht1, Ht2, Ht3⟩, Hex⟩, HO, Hx, Hw, Hs0, Hs1, Hs2, Hs3⟩ Hk
  iapply (signal_step (F := F) m ρ K c Q 0 _ (dev1_eq c) (O₀ c) (O1 c) rfl) $$ [HO Ht0 Hs0]
  · isplitr; · iexact HR
    isplitl [HO]; · iexact HO
    isplitl [Ht0] <;> iassumption
  iintro HO
  iapply (signal_step (F := F) m ρ K c Q 1 _ (dev2_eq c) (O1 c) (O2 c) rfl) $$ [HO Ht1 Hs1]
  · isplitr; · iexact HR
    isplitl [HO]; · iexact HO
    isplitl [Ht1] <;> iassumption
  iintro HO
  iapply (signal_step (F := F) m ρ K c Q 2 _ (dev3_eq c) (O2 c) (O3 c) rfl) $$ [HO Ht2 Hs2]
  · isplitr; · iexact HR
    isplitl [HO]; · iexact HO
    isplitl [Ht2] <;> iassumption
  iintro HO
  iapply (signal_step (F := F) m ρ K c Q 3 _ (dev4_eq c) (O3 c) (O4 c) rfl) $$ [HO Ht3 Hs3]
  · isplitr; · iexact HR
    isplitl [HO]; · iexact HO
    isplitl [Ht3] <;> iassumption
  iintro HO
  iapply (meet_step (F := F) m ρ K c Q) $$ [Hc HO Hat]
  · isplitr; · iexact HR
    isplitr; · iexact Hlev
    isplitl [Hc]; · iexact Hc
    isplitl [HO] <;> iassumption
  iintro ⟨HO, Hz, Hp⟩
  ihave Hp := (Entails.of_eq (slots_by_duty (F := F) (fun b => flip b c)).symm) $$ Hp
  have hfirst := first_loop (F := F) m ρ c Q (fun _ => .ret ⟨c, wDev c, Scalar.xori (wDev c) (Scalar.shli 1#32 0#32)⟩)
  rw [slots1_start, slots1_end] at hfirst
  iapply hfirst $$ [Hx Hw]
  · isplitl [Hx] <;> iassumption
  iintro ⟨Hx, Hw⟩
  unfold wpc; rw [wp_ret]; imodintro
  iapply Hk
  unfold ready
  isplitr; · iexact HR
  isplitr; · iexact Hlev
  isplitl [HO]; · iexact HO
  isplitl [Hz]; · iexact Hz
  isplitl [Hx]; · iexact Hx
  isplitl [Hw]; · iexact Hw
  have htodo : iprop((bigSep Finset.univ fun i : Fin 4 => bigSep Finset.univ fun e : Fin 10 => exR (F := F) c i e.val)
      ∗ bigSep Finset.univ fun i : Fin 4 => bigSep Finset.univ fun e : Fin 10 => pAny (F := F) (flip (bOf e.val) c) i e)
      ⊢ (bigSep Finset.univ fun i : Fin 4 => todoR (F := F) c i 10 : sProp 𝕄) :=
    (Entails.of_eq (bigSep_sep' _ _ _).symm).trans (bigSep_mono fun i _ => todo_all c i)
  iapply htodo
  isplitl [Hex] <;> iassumption

end

end Cert.Mesh

end
-- ==== Proof.Body.lean ====
/-
# `Body`: the kernel's body on one device

The first transfers, the second loop's thirteen trips, the four stores: the body from what a device starts with to the
output block it leaves, every counter at zero again.
-/
module

public import proofs.«01_k».proof.Proof.Meet

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}

local notation "𝕄" => MT nD τ sig Unit (Elt F) ℕ UU ℕ
local notation "Pg" => Prog (TpuEff nD τ sig (Elt F) Λ₀ Proc.tc)

theorem trips2 : k0_t2_loop.trips = 13 := by decide +kernel

/-- Outstanding transfers per panel when the first transfers of the panels before the `k`-th are started. -/
def firstO (k : ℕ) (i : Fin 4) : ℕ := if i.val < k then 9 else 10

theorem firstO_end : firstO 4 = owed 0 0 := by
  funext i; unfold firstO owed; rw [if_pos i.isLt, if_neg (Nat.not_lt_zero _), Nat.zero_sub]
theorem owed_end : owed 13 0 = fun _ => 0 := by
  funext i; unfold owed; rw [if_neg (Nat.not_lt_zero _)]; omega

section
variable (m : (ℓ : Loc nD τ sig) → Buf (Elt F) ℓ) (ρ : Dev nD → PrngReg) (K : Dev nD × (Unit ⊕ Fin 80) → ℕ)

/-- The first transfer of panel `i`. -/
theorem first_send (c : Dev nD) (Q : α → sProp 𝕄) (i : Fin 4) (d : Dev nD) (hd : d = peer c 0) (off : Fin 4 → ℕ) (ho : off = ![i.val, (ex 0).val, 0, 0])
    (inb : ∀ a, off a + S1x1x2048x128.size a ≤ S4x10x2048x128.size a)
    (s1 s2 : DmaSem sig) (h1 : s1 = sendS i (ex 0)) (h2 : s2 = recvS i (ex 0))
    {hsc hsrc hdst hsem} {k : PUnit → Pg α} :
    iprop(recs m ρ K ∗ wSlot c i (Wk m ρ i 0 c) ∗ todoR c i 10 ∗ owesE c (rem c (firstO i.val)))
      ⊢ iprop(((inst m ρ c i (eAt i 0) ∗ owesE c (rem c (firstO (i.val + 1)))) -∗ wpc c (k ⟨⟩) Q)
        -∗ wpc c (.op (.enqueueDma (wV i) (.remote (Dev.tc d : Thread nD τ) (pAt off inb) (.dma s1) hsc) (.dma s2) hsrc hdst hsem) k) Q) := by
  have h := send_inst (F := F) m ρ K c i Q 0 (by decide) (firstO i.val) (firstO (i.val + 1)) (if_neg (Nat.lt_irrefl _)) (if_pos (Nat.lt_succ_self _))
    (fun j hj => by
      have : j.val ≠ i.val := fun e => hj (Fin.ext e)
      unfold firstO
      by_cases hlt : j.val < i.val
      · rw [if_pos hlt, if_pos (by omega)]
      · rw [if_neg hlt, if_neg (by omega)])
    d hd off ho inb s1 s2 h1 h2 (hsc := hsc) (hsrc := hsrc) (hdst := hdst) (hsem := hsem) (k := k)
  rw [show eAt i 0 = 0 from by unfold eAt; omega]
  iintro H Hk
  iapply h $$ H
  iintro ⟨Hp, Ht, HO⟩
  iapply Hk
  isplitl [Hp Ht]
  · unfold inst
    isplitl [Hp]; · iexact Hp
    isplitr
    · rw [show doneR (F := F) c i 0 = iprop(emp) from rfl]; iempintro
    iexact Ht
  iexact HO

/-- The four panels before trip `s` of the second loop. -/
def insts (c : Dev nD) (s : ℕ) : sProp 𝕄 :=
  iprop(inst m ρ c 0 (eAt 0 s) ∗ inst m ρ c 1 (eAt 1 s) ∗ inst m ρ c 2 (eAt 2 s) ∗ inst m ρ c 3 (eAt 3 s))

/-- One trip of the second loop. -/
theorem trip_step (c : Dev nD) (v44 c1 : BitVec 32) (Q : Unit → sProp 𝕄) (t : Fin k0_t2_loop.trips) (u : Unit) :
    iprop(recs m ρ K ∗ levAts L lv ∗ insts m ρ c t.val ∗ owesE c (rem c (owed t.val 0)))
      ⊢ iprop(((insts m ρ c (t.val + 1) ∗ owesE c (rem c (owed (t.val + 1) 0))) -∗ Q ⟨⟩)
        -∗ wpc c (k0_t2_body xM (Memref.isWhole_whole _) oM (Memref.isWhole_whole _) wM (Memref.isWhole_whole _) pM (Memref.isWhole_whole _) cc0_scratch2 cc0_scratch3
          c (wDev c) v44 c1 t u) Q) := by
  rw [trip_eq, ← owed_next]
  unfold insts
  have h0 := panel0_step (F := F) m ρ K c t (panel1 c t (panel2 c t (panel3 c t (.ret ⟨⟩)))) Q
  have h1 := panel1_step (F := F) m ρ K c t (panel2 c t (panel3 c t (.ret ⟨⟩))) Q
  have h2 := panel2_step (F := F) m ρ K c t (panel3 c t (.ret ⟨⟩)) Q
  have h3 := panel3_step (F := F) m ρ K c t (.ret ⟨⟩) Q
  iintro ⟨#HR, #Hlev, ⟨H0, H1, H2, H3⟩, HO⟩ Hk
  iapply h0 $$ [H0 HO]
  · isplitr; · iexact HR
    isplitr; · iexact Hlev
    isplitl [H0] <;> iassumption
  iintro ⟨H0, HO⟩
  iapply h1 $$ [H1 HO]
  · isplitr; · iexact HR
    isplitr; · iexact Hlev
    isplitl [H1] <;> iassumption
  iintro ⟨H1, HO⟩
  iapply h2 $$ [H2 HO]
  · isplitr; · iexact HR
    isplitr; · iexact Hlev
    isplitl [H2] <;> iassumption
  iintro ⟨H2, HO⟩
  iapply h3 $$ [H3 HO]
  · isplitr; · iexact HR
    isplitr; · iexact Hlev
    isplitl [H3] <;> iassumption
  iintro ⟨H3, HO⟩
  unfold wpc; rw [wp_ret]; imodintro
  iapply Hk
  isplitl [H0 H1 H2 H3]
  · isplitl [H0]; · iexact H0
    isplitl [H1]; · iexact H1
    isplitl [H2] <;> iassumption
  iexact HO

/-- The second loop. -/
theorem second_loop (c : Dev nD) (v44 c1 : BitVec 32) (Q : α → sProp 𝕄) (kk : Unit → Pg α) :
    iprop(recs m ρ K ∗ levAts L lv ∗ insts m ρ c 0 ∗ owesE c (rem c (owed 0 0)))
      ⊢ iprop(((insts m ρ c 13 ∗ owesE c (rem c (owed 13 0))) -∗ wpc c (kk ⟨⟩) Q)
        -∗ wpc c (Scf.Loop.for k0_t2_loop k0_t2_ok ⟨⟩ (k0_t2_body xM (Memref.isWhole_whole _) oM (Memref.isWhole_whole _) wM (Memref.isWhole_whole _) pM (Memref.isWhole_whole _)
          cc0_scratch2 cc0_scratch3 c (wDev c) v44 c1) >>= kk) Q) := by
  have hstep : ∀ (t : Fin (Scf.trips k0_t2_loop.lb k0_t2_loop.ub k0_t2_loop.st)) (u : Unit),
      iprop(recs m ρ K ∗ levAts L lv ∗ insts m ρ c t.val ∗ owesE c (rem c (owed t.val 0))) ⊢ wp frame (wpE (defs₀ (F := F)) 𝒱₀ (c : Thread nD τ) none) Set.univ
        (k0_t2_body xM (Memref.isWhole_whole _) oM (Memref.isWhole_whole _) wM (Memref.isWhole_whole _) pM (Memref.isWhole_whole _) cc0_scratch2 cc0_scratch3 c (wDev c) v44 c1 t u)
        fun _ => iprop(recs m ρ K ∗ levAts L lv ∗ insts m ρ c (t.val + 1) ∗ owesE c (rem c (owed (t.val + 1) 0))) := by
    intro t u
    have h := trip_step (F := F) m ρ K c v44 c1 (fun _ => iprop(recs m ρ K ∗ levAts L lv ∗ insts m ρ c (t.val + 1) ∗ owesE c (rem c (owed (t.val + 1) 0)))) t u
    iintro ⟨#HR, #Hlev, Hi, HO⟩
    iapply h $$ [Hi HO]
    · isplitr; · iexact HR
      isplitr; · iexact Hlev
      isplitl [Hi] <;> iassumption
    iintro ⟨Hi, HO⟩
    isplitr; · iexact HR
    isplitr; · iexact Hlev
    isplitl [Hi] <;> iassumption
  have h := Scf.wp_for_bind frame (wpE (defs₀ (F := F)) 𝒱₀ (c : Thread nD τ) none) Set.univ k0_t2_loop.lb k0_t2_loop.ub k0_t2_loop.st k0_t2_ok ()
    (k0_t2_body xM (Memref.isWhole_whole _) oM (Memref.isWhole_whole _) wM (Memref.isWhole_whole _) pM (Memref.isWhole_whole _) cc0_scratch2 cc0_scratch3 c (wDev c) v44 c1)
    (fun k _ => iprop(recs m ρ K ∗ levAts L lv ∗ insts m ρ c k ∗ owesE c (rem c (owed k 0)))) hstep (kk := kk) (Q := Q)
  rw [show Scf.trips k0_t2_loop.lb k0_t2_loop.ub k0_t2_loop.st = 13 from trips2] at h
  iintro H Hk
  iapply h $$ H
  iintro %u ⟨-, -, H⟩
  iapply Hk; iexact H

theorem part41_step (c : Dev nD) (v20 : BitVec 32) (Q : (Σ' (v44 : BitVec 32), BitVec 32) → sProp 𝕄) :
    iprop(recs m ρ K ∗ owesE c (rem c (firstO 0)) ∗ wSlot c 0 (Wk m ρ 0 0 c) ∗ todoR c 0 10 ∗ wSlot c 1 (Wk m ρ 1 0 c) ∗ todoR c 1 10)
      ⊢ iprop(((inst m ρ c 0 (eAt 0 0) ∗ inst m ρ c 1 (eAt 1 0) ∗ owesE c (rem c (firstO 2))) -∗ Q ⟨Scalar.xori (wDev c) (Scalar.shli 1#32 0#32), 1#32⟩)
        -∗ wpc c (k0_part41 xM (Memref.isWhole_whole _) oM (Memref.isWhole_whole _) wM (Memref.isWhole_whole _) pM (Memref.isWhole_whole _) cc0_scratch2 cc0_scratch3 c (wDev c) v20) Q) := by
  rw [k0_part41_eq_skeleton]; unfold k0_part41_skel
  simp only [Prog.lift, Prog.bind_op, Prog.bind_ret, Prog.pure_eq_ret]
  iintro ⟨#HR, HO, Hw0, Ht0, Hw1, Ht1⟩ Hk
  iapply (first_send (F := F) m ρ K c Q 0 _ (dev5_eq c) ![0, 0, 0, 0] rfl inb_S4x10x2048x128_S1x1x2048x128_0_0_0_0 _ _
    (sem_send 0 (ex 0) ![0, 0] rfl _) (sem_recv 0 (ex 0) ![0, 0] rfl _)) $$ [HO Hw0 Ht0]
  · isplitr; · iexact HR
    isplitl [Hw0]; · iexact Hw0
    isplitl [Ht0]; · iexact Ht0
    iexact HO
  iintro ⟨H0, HO⟩
  iapply (first_send (F := F) m ρ K c Q 1 _ (dev6_eq c) ![1, 0, 0, 0] rfl inb_S4x10x2048x128_S1x1x2048x128_1_0_0_0 _ _
    (sem_send 1 (ex 0) ![1, 0] rfl _) (sem_recv 1 (ex 0) ![1, 0] rfl _)) $$ [HO Hw1 Ht1]
  · isplitr; · iexact HR
    isplitl [Hw1]; · iexact Hw1
    isplitl [Ht1]; · iexact Ht1
    iexact HO
  iintro ⟨H1, HO⟩
  unfold wpc; rw [wp_ret]; imodintro
  iapply Hk
  isplitl [H0]; · iexact H0
  isplitl [H1]; · iexact H1
  iexact HO

/-- Panel `i` after its ten exchanges. -/
theorem inst_end (c : Dev nD) (i : Fin 4) : inst m ρ c i (eAt i 13) ⊢ iprop(wSlot c i (Wk m ρ i 10 c) ∗ doneR (F := F) c i 10) := by
  rw [show eAt i 13 = 10 from by unfold eAt; omega]
  unfold inst pend
  rw [if_neg (Nat.lt_irrefl _)]
  iintro ⟨Hw, Hd, -⟩
  isplitl [Hw] <;> iassumption

theorem part42_step (c : Dev nD) (v44 c1 : BitVec 32) (f : (cc0_stg1_0 : Ref sig .tc).ty.Contents (Elt F)) (Q : PUnit → sProp 𝕄) :
    iprop(recs m ρ K ∗ levAts L lv ∗ owesE c (rem c (firstO 2)) ∗ inst m ρ c 0 (eAt 0 0) ∗ inst m ρ c 1 (eAt 1 0)
        ∗ wSlot c 2 (Wk m ρ 2 0 c) ∗ todoR c 2 10 ∗ wSlot c 3 (Wk m ρ 3 0 c) ∗ todoR c 3 10 ∗ oPts c f)
      ⊢ iprop(((owesE c 0 ∗ (wSlot c 0 (Wk m ρ 0 10 c) ∗ wSlot c 1 (Wk m ρ 1 10 c) ∗ wSlot c 2 (Wk m ρ 2 10 c) ∗ wSlot c 3 (Wk m ρ 3 10 c))
            ∗ (doneR c 0 10 ∗ doneR c 1 10 ∗ doneR c 2 10 ∗ doneR c 3 10) ∗ oPts c (putO m ρ c 0 f)) -∗ Q ⟨⟩)
        -∗ wpc c (k0_part42 xM (Memref.isWhole_whole _) oM (Memref.isWhole_whole _) wM (Memref.isWhole_whole _) pM (Memref.isWhole_whole _) cc0_scratch2 cc0_scratch3 c (wDev c) v44 c1) Q) := by
  rw [k0_part42_eq_skeleton]; unfold k0_part42_skel
  simp only [Prog.lift, Prog.bind_op, Prog.bind_ret, Prog.pure_eq_ret]
  iintro ⟨#HR, #Hlev, HO, H0, H1, Hw2, Ht2, Hw3, Ht3, Hout⟩ Hk
  iapply (first_send (F := F) m ρ K c Q 2 _ (dev7_eq c) ![2, 0, 0, 0] rfl inb_S4x10x2048x128_S1x1x2048x128_2_0_0_0 _ _
    (sem_send 2 (ex 0) ![2, 0] rfl _) (sem_recv 2 (ex 0) ![2, 0] rfl _)) $$ [HO Hw2 Ht2]
  · isplitr; · iexact HR
    isplitl [Hw2]; · iexact Hw2
    isplitl [Ht2]; · iexact Ht2
    iexact HO
  iintro ⟨H2, HO⟩
  iapply (first_send (F := F) m ρ K c Q 3 _ (dev8_eq c) ![3, 0, 0, 0] rfl inb_S4x10x2048x128_S1x1x2048x128_3_0_0_0 _ _
    (sem_send 3 (ex 0) ![3, 0] rfl _) (sem_recv 3 (ex 0) ![3, 0] rfl _)) $$ [HO Hw3 Ht3]
  · isplitr; · iexact HR
    isplitl [Hw3]; · iexact Hw3
    isplitl [Ht3]; · iexact Ht3
    iexact HO
  iintro ⟨H3, HO⟩
  rw [show (3 : Fin 4).val + 1 = 4 from rfl, firstO_end]
  iapply (second_loop (F := F) m ρ K c v44 c1 Q) $$ [H0 H1 H2 H3 HO]
  · isplitr; · iexact HR
    isplitr; · iexact Hlev
    isplitl [H0 H1 H2 H3]
    · unfold insts
      isplitl [H0]; · iexact H0
      isplitl [H1]; · iexact H1
      isplitl [H2] <;> iassumption
    iexact HO
  iintro ⟨Hi, HO⟩
  unfold insts
  icases Hi with ⟨H0, H1, H2, H3⟩
  ihave H0 := (inst_end (F := F) m ρ c 0) $$ H0
  ihave H1 := (inst_end (F := F) m ρ c 1) $$ H1
  ihave H2 := (inst_end (F := F) m ρ c 2) $$ H2
  ihave H3 := (inst_end (F := F) m ρ c 3) $$ H3
  icases H0 with ⟨Hw0, Hd0⟩
  icases H1 with ⟨Hw1, Hd1⟩
  icases H2 with ⟨Hw2, Hd2⟩
  icases H3 with ⟨Hw3, Hd3⟩
  rw [owed_end, show rem c (fun _ => 0) = 0 from by unfold rem; simp only [remO, add_zero]]
  iapply (put_step (F := F) m ρ c Q 0 f ![0, 0, 0] rfl _ ![0, 0] rfl _) $$ [Hw0 Hout]
  · isplitl [Hw0] <;> iassumption
  iintro ⟨Hw0, Hout⟩
  unfold wpc; rw [wp_ret]; imodintro
  iapply Hk
  isplitl [HO]; · iexact HO
  isplitl [Hw0 Hw1 Hw2 Hw3]
  · isplitl [Hw0]; · iexact Hw0
    isplitl [Hw1]; · iexact Hw1
    isplitl [Hw2] <;> iassumption
  isplitl [Hd0 Hd1 Hd2 Hd3]
  · isplitl [Hd0]; · iexact Hd0
    isplitl [Hd1]; · iexact Hd1
    isplitl [Hd2] <;> iassumption
  iexact Hout

/-- What a device ends with: its input block unchanged, its output block, nothing owed, its slots and counters. -/
def fin (c : Dev nD) : sProp 𝕄 :=
  iprop(owesE c 0 ∗ semVal (barCell c) 0 ∗ xPts m ρ c ∗ oPts c (outAt m ρ c)
    ∗ (wSlot c 0 (Wk m ρ 0 10 c) ∗ wSlot c 1 (Wk m ρ 1 10 c) ∗ wSlot c 2 (Wk m ρ 2 10 c) ∗ wSlot c 3 (Wk m ρ 3 10 c))
    ∗ (doneR c 0 10 ∗ doneR c 1 10 ∗ doneR c 2 10 ∗ doneR c 3 10))

/-- The body, from what a device starts with to what it ends with. -/
theorem body_step (c : Dev nD) (f : (cc0_stg1_0 : Ref sig .tc).ty.Contents (Elt F)) (Q : PUnit → sProp 𝕄) :
    iprop(start m ρ K c ∗ owesE c (O₀ c) ∗ xPts m ρ c ∗ oPts c f ∗ (bigSep Finset.univ fun i : Fin 4 => iprop(∃ X, wSlot (F := F) c i X))
        ∗ bigSep Finset.univ fun i : Fin 4 => bigSep Finset.univ fun e : Fin 10 => pAny c i e)
      ⊢ iprop((fin m ρ c -∗ Q ⟨⟩)
        -∗ wpc c (cc0__body xM (Memref.isWhole_whole _) oM (Memref.isWhole_whole _) wM (Memref.isWhole_whole _) pM (Memref.isWhole_whole _) cc0_scratch2 cc0_scratch3) Q) := by
  rw [cc0__body_eq_skeleton]; unfold cc0__body_skel
  iintro ⟨Hst, HO, Hx, Hout, Hw, Hp⟩ Hk
  unfold wpc; rw [wp_bind]
  iapply (part40_step (F := F) m ρ K c _) $$ [Hst HO Hx Hw Hp]
  · isplitl [Hst]; · iexact Hst
    isplitl [HO]; · iexact HO
    isplitl [Hx]; · iexact Hx
    isplitl [Hw] <;> iassumption
  unfold ready
  rw [bigSep_four, bigSep_four]
  iintro ⟨#HR, #Hlev, HO, Hz, Hx, ⟨Hw0, Hw1, Hw2, Hw3⟩, Ht0, Ht1, Ht2, Ht3⟩
  dsimp only
  rw [wp_bind]
  iapply (part41_step (F := F) m ρ K c _ _) $$ [HO Hw0 Ht0 Hw1 Ht1]
  · isplitr; · iexact HR
    isplitl [HO]; · iexact HO
    isplitl [Hw0]; · iexact Hw0
    isplitl [Ht0]; · iexact Ht0
    isplitl [Hw1] <;> iassumption
  iintro ⟨H0, H1, HO⟩
  dsimp only
  rw [wp_bind]
  iapply (part42_step (F := F) m ρ K c _ _ f _) $$ [HO H0 H1 Hw2 Ht2 Hw3 Ht3 Hout]
  · isplitr; · iexact HR
    isplitr; · iexact Hlev
    isplitl [HO]; · iexact HO
    isplitl [H0]; · iexact H0
    isplitl [H1]; · iexact H1
    isplitl [Hw2]; · iexact Hw2
    isplitl [Ht2]; · iexact Ht2
    isplitl [Hw3]; · iexact Hw3
    isplitl [Ht3] <;> iassumption
  iintro ⟨HO, ⟨Hw0, Hw1, Hw2, Hw3⟩, Hd, Hout⟩
  simp only [Prog.lift, Prog.bind_op, Prog.bind_ret, Prog.pure_eq_ret]
  iapply (put_step (F := F) m ρ c Q 1 (putO m ρ c 0 f) ![1, 0, 0] rfl _ ![0, 128] rfl _) $$ [Hw1 Hout]
  · isplitl [Hw1] <;> iassumption
  iintro ⟨Hw1, Hout⟩
  iapply (put_step (F := F) m ρ c Q 2 (putO m ρ c 1 (putO m ρ c 0 f)) ![2, 0, 0] rfl _ ![0, 256] rfl _) $$ [Hw2 Hout]
  · isplitl [Hw2] <;> iassumption
  iintro ⟨Hw2, Hout⟩
  iapply (put_step (F := F) m ρ c Q 3 (putO m ρ c 2 (putO m ρ c 1 (putO m ρ c 0 f))) ![3, 0, 0] rfl _ ![0, 384] rfl _) $$ [Hw3 Hout]
  · isplitl [Hw3] <;> iassumption
  iintro ⟨Hw3, Hout⟩
  unfold wpc; rw [wp_ret, putO_all]; imodintro
  iapply Hk
  unfold fin
  isplitl [HO]; · iexact HO
  isplitl [Hz]; · iexact Hz
  isplitl [Hx]; · iexact Hx
  isplitl [Hout]; · iexact Hout
  isplitr [Hd]
  · isplitl [Hw0]; · iexact Hw0
    isplitl [Hw1]; · iexact Hw1
    isplitl [Hw2] <;> iassumption
  iexact Hd

end

end Cert.Mesh

end
-- ==== Proof.Data.lean ====
/-
# `Data`: the launch's proof data, and the body from it

What a device's buffers hold before and after the kernel, what it owes at launch, and that the body takes the one to
the other.
-/
module

public import proofs.«01_k».proof.Proof.Body

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The own semaphores: forty for sends, forty for receipts -/

/-- A panel and an exchange, sending or receiving, as the number of an own semaphore. -/
def ownIx : (Fin 4 × Fin 10) ⊕ (Fin 4 × Fin 10) → Fin 80 := Sum.elim (fun p => sIx p.1 p.2) (fun p => rIx p.1 p.2)

theorem ownIx_injective : Function.Injective ownIx := by
  rintro (⟨i, e⟩ | ⟨i, e⟩) (⟨i', e'⟩ | ⟨i', e'⟩) h <;> have h := congrArg Fin.val h <;> simp only [ownIx, Sum.elim_inl, Sum.elim_inr, sIx, rIx] at h
  · exact congrArg Sum.inl (Prod.ext (Fin.ext (by show i.val = i'.val; omega)) (Fin.ext (by show e.val = e'.val; omega)))
  · exact absurd h (by omega)
  · exact absurd h (by omega)
  · exact congrArg Sum.inr (Prod.ext (Fin.ext (by show i.val = i'.val; omega)) (Fin.ext (by show e.val = e'.val; omega)))

def ownE : (Fin 4 × Fin 10) ⊕ (Fin 4 × Fin 10) ≃ Fin 80 :=
  Equiv.ofBijective ownIx ((Fintype.bijective_iff_injective_and_card _).mpr ⟨ownIx_injective, by decide⟩)

theorem csem_s (i : Fin 4) (e : Fin 10) : osem (sIx i e) = .dma (sendS i e) := rfl
theorem csem_r (i : Fin 4) (e : Fin 10) : osem (rIx i e) = .dma (recvS i e) := by
  refine congrArg SemLoc.dma (Fin.ext ?_)
  show 2 + (40 + (10 * i.val + e.val)) = 42 + (10 * i.val + e.val); omega

/-- Anything about the eighty own semaphores, by panel and exchange. -/
theorem bigSep_own (Φ : SemLoc sig → sProp 𝕄) :
    bigSep Finset.univ (fun k : Fin 80 => Φ (osem k))
      = iprop((bigSep Finset.univ fun i : Fin 4 => bigSep Finset.univ fun e : Fin 10 => Φ (.dma (sendS i e)))
          ∗ bigSep Finset.univ fun i : Fin 4 => bigSep Finset.univ fun e : Fin 10 => Φ (.dma (recvS i e))) := by
  rw [bigSep_univ_equiv ownE, bigSep_univ_sum, bigSep_univ_prod, bigSep_univ_prod]
  have hr (i : Fin 4) (e : Fin 10) : Φ (osem (ownE (.inr (i, e)))) = Φ (.dma (recvS i e)) := congrArg Φ (csem_r i e)
  simp only [hr]
  rfl

/-! ## The data -/

variable (m : (ℓ : Loc nD τ sig) → Buf (Elt F) ℓ) (ρ : Dev nD → PrngReg)

/-- The two working buffers, with any contents. -/
def bufs (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def Φ₀ (c : Dev nD) : sProp 𝕄 := iprop((∃ K, start m ρ K c) ∗ bufs c)
/-- After the kernel: the working buffers, every own counter and the barrier counter at zero. -/
def Φ₁ (c : Dev nD) : sProp 𝕄 :=
  iprop(bufs (F := F) c ∗ (bigSep Finset.univ fun k : Fin 80 => semVal ((c : Thread nD τ), osem k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## What is left after the body is what the launch wants back -/

/-- The counters of a panel's ten exchanges, and its ten landing slots. -/
theorem doneR_all (c : Dev nD) (i : Fin 4) : doneR (F := F) c i 10 ⊢ iprop((bigSep Finset.univ fun e : Fin 10 => semVal (sendCell c i e) 0)
    ∗ (bigSep Finset.univ fun e : Fin 10 => semVal (recvCell c i e) 0) ∗ bigSep Finset.univ fun e : Fin 10 => pAny (F := F) c i e) := by
  rw [← bigSep_sep', ← bigSep_sep', bigSep_ten]
  simp only [doneR_succ]
  iintro ⟨⟨⟨⟨⟨⟨⟨⟨⟨⟨-, H0⟩, H1⟩, H2⟩, H3⟩, H4⟩, H5⟩, H6⟩, H7⟩, H8⟩, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem close_all (c : Dev nD) :
    iprop((bigSep Finset.univ fun i : Fin 4 => iprop(∃ X, wSlot (F := F) c i X)) ∗ (bigSep Finset.univ fun i : Fin 4 => doneR (F := F) c i 10) ∗ semVal (barCell c) 0)
      ⊢ Φ₁ (F := F) c := by
  have hd : (bigSep Finset.univ fun i : Fin 4 => doneR (F := F) c i 10 : sProp 𝕄) ⊢
      iprop((bigSep Finset.univ fun i : Fin 4 => bigSep Finset.univ fun e : Fin 10 => semVal (sendCell c i e) 0)
        ∗ (bigSep Finset.univ fun i : Fin 4 => bigSep Finset.univ fun e : Fin 10 => semVal (recvCell c i e) 0)
        ∗ bigSep Finset.univ fun i : Fin 4 => bigSep Finset.univ fun e : Fin 10 => pAny (F := F) c i e) := by
    rw [← bigSep_sep', ← bigSep_sep']
    exact bigSep_mono fun i _ => doneR_all c i
  unfold Φ₁ bufs
  rw [bigSep_own fun s => semVal ((c : Thread nD τ), s) 0]
  iintro ⟨Hw, Hd, Hb⟩
  ihave Hd := hd $$ Hd
  icases Hd with ⟨Hs, Hr, Hp⟩
  ihave Hw := (w_join (F := F) c) $$ Hw
  ihave Hp := (p_join (F := F) c) $$ Hp
  isplitl [Hw Hp]
  · isplitl [Hw] <;> iassumption
  isplitl [Hs Hr]
  · isplitl [Hs] <;> iassumption
  iexact Hb

/-! ## The body obligation -/

theorem fin_t (t : Fin cfg0.N) : t = t0_0 := fin_N0 t
theorem fetch_0 (t : Fin cfg0.N) : (cfg0.win (0 : Fin 2)).fetch t = true := by rw [fin_t t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (outAt m ρ c))

/-- What the body leaves is what the launch wants. -/
theorem post_intro (c : Dev nD) : fin m ρ c ⊢ bodyPost m ρ c := by
  unfold fin owesE xPts oPts bodyPost Dat.owesAt Pipeline.owesWithin
  rw [show (dats m ρ 0 c).owed t0_0.succ = 0 from rfl]
  have hc := close_all (F := F) c
  rw [bigSep_four, bigSep_four] at hc
  iintro ⟨⟨%W, HO⟩, Hz, Hx, Hout, ⟨Hw0, Hw1, Hw2, Hw3⟩, Hd⟩
  isplitl [Hw0 Hw1 Hw2 Hw3 Hd Hz]
  · iapply hc
    isplitl [Hw0 Hw1 Hw2 Hw3]
    · isplitl [Hw0]; · iexists _; iexact Hw0
      isplitl [Hw1]; · iexists _; iexact Hw1
      isplitl [Hw2]; · iexists _; iexact Hw2
      iexists _; iexact Hw3
    isplitl [Hd] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

/-- The body, from the launch's precondition to its postcondition. -/
theorem sound_body (c : Dev nD) : bodyPre m ρ c ⊢ wpc c
    (cc0__body xM (Memref.isWhole_whole _) oM (Memref.isWhole_whole _) wM (Memref.isWhole_whole _) pM (Memref.isWhole_whole _) cc0_scratch2 cc0_scratch3)
    (fun _ => bodyPost m ρ c) := by
  unfold bodyPre Φ₀ bufs Dat.owesAt Pipeline.owesWithin
  rw [show (dats m ρ 0 c).owed t0_0.castSucc = O₀ c from rfl]
  iintro ⟨⟨⟨%K, Hst⟩, Hw, Hp⟩, ⟨%W, %hW, HO⟩, ⟨%d0, %g0, %hg0, Hx⟩, ⟨%d1, %g1, %hg1, Hout⟩⟩
  have hx : g0 = xstg m ρ c := by rw [hg0]; unfold Dat.before; rw [if_pos (fetch_0 t0_0)]; rfl
  subst hx
  have h := body_step (F := F) m ρ K c g1 (fun _ => bodyPost m ρ c)
  iapply h $$ [Hst HO Hx Hout Hw Hp]
  · isplitl [Hst]; · iexact Hst
    isplitl [HO]; · unfold owesE; iexists W; iexact HO
    isplitl [Hx]; · unfold xPts; iexact Hx
    isplitl [Hout]; · unfold oPts; iexact Hout
    isplitl [Hw]; · iapply (w_split (F := F) c); iexact Hw
    iapply (p_split (F := F) c); iexact Hp
  iintro H
  iapply (post_intro m ρ c); iexact H

/-- The body obligation of the launch, on core `c`. -/
theorem body_obligation (c : Dev nD) : BodyObligation (dats (F := F) m ρ 0 c) (defs₀ (F := F)) 𝒱₀ () Set.univ := fun t => by
  rw [fin_t t]
  rw [bigSep_W0, bigSep_W0]
  simp only [owns_whole_eq]
  exact sound_body m ρ c

end Cert.Mesh

end
-- ==== Proof.Deal.lean ====
/-
# `Deal`: what the launch deals out

The cells' positions and duty tokens of all devices are dealt so that each device holds the tokens of the duties it
pays; the launch credit of every cell is what the other devices owe it.
-/
module

public import proofs.«01_k».proof.Proof.Data

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens of the whole mesh -/

theorem osem_injective : Function.Injective osem := fun j j' h => by
  have h : 2 + j.val = 2 + j'.val := congrArg (fun s : SemLoc sig => match s with | .dma q => q.val | .reg _ => 0) h
  exact Fin.ext (by omega)

theorem csem_injective : Function.Injective csem := by
  rintro (_ | j) (_ | j') h
  · rfl
  · exact absurd h (fun h' => by cases h')
  · exact absurd h (fun h' => by cases h')
  · exact congrArg Sum.inr (osem_injective h)

theorem kcell_injective : Function.Injective kcell := fun a b h => Prod.ext (congrArg (fun g : GSem nD τ sig => g.1.1) h) (csem_injective (congrArg Prod.snd h))

def meshCells : Finset (GSem nD τ sig) := Finset.univ.map ⟨kcell, kcell_injective⟩

/-- A device's own cells' duty tokens: its barrier cell's four, every other cell's one. -/
def tokOf (cj : Dev nD × (Fin 4 ⊕ Fin 80)) : GSem nD τ sig × ℕ × Fin 4 := match cj.2 with
  | .inl b => (barCell cj.1, 0, b)
  | .inr k => (((cj.1 : Thread nD τ), osem k), 0, 0)

theorem tokOf_injective : Function.Injective tokOf := by
  rintro ⟨c, b | k⟩ ⟨c', b' | k'⟩ h
  · have h1 : c = c' := congrArg (fun x : GSem nD τ sig × ℕ × Fin 4 => x.1.1.1) h
    have h2 : b = b' := congrArg (fun x : GSem nD τ sig × ℕ × Fin 4 => x.2.2) h
    rw [h1, h2]
  · exact absurd (congrArg (fun x : GSem nD τ sig × ℕ × Fin 4 => x.1.2) h) (fun h' => by cases h')
  · exact absurd (congrArg (fun x : GSem nD τ sig × ℕ × Fin 4 => x.1.2) h) (fun h' => by cases h')
  · have h1 : c = c' := congrArg (fun x : GSem nD τ sig × ℕ × Fin 4 => x.1.1.1) h
    have h2 : k = k' := osem_injective (congrArg (fun x : GSem nD τ sig × ℕ × Fin 4 => x.1.2) h)
    rw [h1, h2]

def meshToks : Finset (GSem nD τ sig × ℕ × Fin 4) := Finset.univ.map ⟨tokOf, tokOf_injective⟩

def u₀ : UU :=
  (initOf (Pipeline.cells cfgs cellOf_inj) (Pipeline.launchToks cfgs cellOf_inj), initOf meshCells meshToks)

variable (m : (ℓ : Loc nD τ sig) → Buf (Elt F) ℓ) (ρ : Dev nD → PrngReg)

/-- The duty tokens of device `c`'s own cells. -/
def toks (c : Dev nD) : sProp 𝕄 :=
  iprop((bigSep Finset.univ fun b : Fin 4 => dutyTok ER (barCell c) 0 b) ∗ bigSep Finset.univ fun k : Fin 80 => dutyTok ER ((c : Thread nD τ), osem k) 0 0)

/-- A device's cells' states, positions and reached-marks. -/
def states (c : Dev nD) : sProp 𝕄 := bigSep Finset.univ fun k : Unit ⊕ Fin 80 => roundState ER (rd m ρ) (kcell (c, k)) 0
def places (c : Dev nD) : sProp 𝕄 :=
  bigSep Finset.univ fun k : Unit ⊕ Fin 80 => iprop(atPos ER (kcell (c, k)) 0 ∅ 0 ∗ reached ER (kcell (c, k)) 0)

/-- What the launch element deals device `c`. -/
def G (c : Dev nD) : sProp 𝕄 := iprop(states m ρ c ∗ places (F := F) c ∗ toks (F := F) c)

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : Unit ⊕ Fin 80 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum]; rfl
  iintro HX
  imod (Rounds.fund ER (rd m ρ) meshCells meshToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G states places; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Unit ⊕ Fin 80 => semVal (kcell (c, k)) 0 : sProp 𝕄) := by
  rw [unscopedSems0_eq, bigSep_univ_sum, bigSep_univ_eq_bigSepL [()] (by decide) (by decide)]
  unfold Pipeline.ownSems0
  show _ ⊢ iprop(semVal (kcell (c, .inl ())) 0 ∗ _)
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k)))) ∗ places c ∗ toks c) := by
  unfold G states
  iintro ⟨Hos, Hus, Hst, Hat, Htok⟩
  ihave Hv := (sems0_eq (F := F) c) $$ [Hos Hus]
  · isplitl [Hos] <;> iassumption
  imod (show iprop((bigSep Finset.univ fun k : Unit ⊕ Fin 80 => semVal (kcell (c, k)) 0) ∗ bigSep Finset.univ fun k : Unit ⊕ Fin 80 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat] <;> iassumption

/-! ## Dealing the tokens to the devices that pay with them -/

/-- Something for every device and item may be moved, item by item, along a rearrangement of the devices. -/
theorem around {I : Type} [Fintype I] [DecidableEq I] (g : I → Dev nD ≃ Dev nD) (Φ : Dev nD → I → sProp 𝕄) :
    (bigSep Finset.univ fun c : Dev nD => bigSep Finset.univ fun i : I => Φ c i) = bigSep Finset.univ fun c : Dev nD => bigSep Finset.univ fun i : I => Φ (g i c) i := by
  rw [← bigSep_univ_prod (fun p : Dev nD × I => Φ p.1 p.2), ← bigSep_univ_prod (fun p : Dev nD × I => Φ (g p.2 p.1) p.2)]
  exact bigSep_univ_equiv ⟨fun p => (g p.2 p.1, p.2), fun p => ((g p.2).symm p.1, p.2), fun p => by simp, fun p => by simp⟩ _

/-- The tokens of the duties device `c` pays. -/
def payToks (c : Dev nD) : sProp 𝕄 :=
  iprop((bigSep Finset.univ fun b : Fin 4 => dutyTok ER (barCell (flip b c)) 0 b)
    ∗ (bigSep Finset.univ fun i : Fin 4 => bigSep Finset.univ fun e : Fin 10 => dutyTok ER (sendCell c i e) 0 0)
    ∗ bigSep Finset.univ fun i : Fin 4 => bigSep Finset.univ fun e : Fin 10 => dutyTok ER (recvCell (peer c e.val) i e) 0 0)

theorem toks_around : (bigSep Finset.univ fun c : Dev nD => (toks c : sProp 𝕄)) ⊢ bigSep Finset.univ fun c : Dev nD => payToks c := by
  refine Entails.of_eq ?_
  unfold toks payToks
  rw [bigSep_sep', bigSep_sep', bigSep_sep', around flipE (fun (c : Dev nD) (b : Fin 4) => (dutyTok ER (barCell c) 0 b : sProp 𝕄)),
    bigSep_congr (s := Finset.univ) fun (c : Dev nD) _ => bigSep_own fun s => (dutyTok ER ((c : Thread nD τ), s) 0 0 : sProp 𝕄), bigSep_sep']
  refine congrArg (fun X : sProp 𝕄 => iprop(_ ∗ _ ∗ X)) ?_
  have h := around (fun p : Fin 4 × Fin 10 => flipE (bOf p.2.val)) (fun (c : Dev nD) (p : Fin 4 × Fin 10) => (dutyTok ER (recvCell c p.1 p.2) 0 0 : sProp 𝕄))
  simp only [bigSep_univ_prod] at h
  exact h

/-- What stays with device `c`: its positions, and the tokens of the duties it pays. -/
def linear (c : Dev nD) : sProp 𝕄 := iprop((bigSep Finset.univ fun k : Unit ⊕ Fin 80 => atPos ER (kcell (c, k)) 0 ∅ 0) ∗ payToks (F := F) c)

/-- What the global step makes of it. -/
def G' (c : Dev nD) : sProp 𝕄 := iprop(∃ K, recs m ρ K ∗ linear (F := F) c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k)))) ∗ places c ∗ toks c) : sProp 𝕄)
      ⊢ bigSep Finset.univ (G' m ρ) := by
  unfold places
  rw [bigSep_sep', bigSep_sep', ← bigSep_univ_prod (fun ck : Dev nD × (Unit ⊕ Fin 80) => iprop(∃ κ : ℕ, cellInv ER (rd m ρ) κ (kcell ck))),
    bigSep_congr (s := Finset.univ) (fun (c : Dev nD) _ => bigSep_sep' Finset.univ (fun k : Unit ⊕ Fin 80 => (atPos ER (kcell (c, k)) 0 ∅ 0 : sProp 𝕄)) (fun k => reached ER (kcell (c, k)) 0)),
    bigSep_sep', ← bigSep_univ_prod (fun ck : Dev nD × (Unit ⊕ Fin 80) => (reached ER (kcell ck) 0 : sProp 𝕄))]
  iintro ⟨HI, ⟨Hat, #HR⟩, Htok⟩
  ihave HK := (BI.bigSep_exists_pi Finset.univ (fun (ck : Dev nD × (Unit ⊕ Fin 80)) (κ : ℕ) => (cellInv ER (rd m ρ) κ (kcell ck) : sProp 𝕄))) $$ HI
  icases HK with ⟨%K, #HI⟩
  ihave Htk := (toks_around (F := F)) $$ Htok
  have hK (c : Dev nD) : iprop(recs m ρ K ∗ linear (F := F) c) ⊢ G' m ρ c := by
    unfold G'; iintro H; iexists K; iexact H
  iapply (with_persistent (R := recs m ρ K) fun c _ => hK c)
  isplitr
  · unfold recs; isplitl; · iexact HI
    iexact HR
  · unfold linear; rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem recv_ne_bar (c d : Dev nD) (i : Fin 4) (e : Fin 10) : recvCell c i e ≠ barCell d := fun h => by cases congrArg Prod.snd h
theorem bar_inj {a b : Dev nD} (h : barCell a = barCell b) : a = b := congrArg (fun g : GSem nD τ sig => g.1.1) h
theorem recvS_inj {i i' : Fin 4} {e e' : Fin 10} (h : recvS i e = recvS i' e') : i = i' ∧ e = e' := by
  have h : 42 + (10 * i.val + e.val) = 42 + (10 * i'.val + e'.val) := congrArg Fin.val h
  exact ⟨Fin.ext (by omega), Fin.ext (by omega)⟩
theorem recv_inj {a b : Dev nD} {i i' : Fin 4} {e e' : Fin 10} (h : recvCell a i e = recvCell b i' e') : a = b ∧ i = i' ∧ e = e' :=
  ⟨congrArg (fun g : GSem nD τ sig => g.1.1) h, recvS_inj (SemLoc.dma.inj (congrArg Prod.snd h))⟩

/-- What the transfers owe a barrier cell: nothing. -/
theorem remO_bar (d c : Dev nD) (i : Fin 4) : ∀ k, remO d i k (barCell c) () = 0
  | 0 => rfl
  | k + 1 => by
    rw [remO, Pi.add_apply, Finsupp.add_apply, remO_bar, tallyAt_ne_cell (fun h => recv_ne_bar _ _ _ _ h.symm)]; rfl

/-- What the last `k` transfers of panel `i'` owe the receive cell of panel `i`, exchange `e`. -/
theorem remO_recv (d c : Dev nD) (i' i : Fin 4) (e : Fin 10) : ∀ k, k ≤ 10 → remO d i' k (recvCell c i e) () = if i' = i ∧ 10 ≤ e.val + k ∧ d = peer c e.val then N else 0
  | 0, _ => by rw [if_neg (fun h => by have := e.isLt; omega)]; rfl
  | k + 1, hk => by
    rw [remO, Pi.add_apply, Finsupp.add_apply, remO_recv d c i' i e k (by omega), tallyAt_apply]
    have hex : (ex (9 - k)).val = 9 - k := ex_val (by omega)
    by_cases he : e.val = 9 - k
    · rw [if_neg (fun h => by omega), Nat.zero_add]
      by_cases h : i' = i ∧ d = peer c e.val
      · have hc : recvCell c i e = recvCell (peer d (9 - k)) i' (ex (9 - k)) := by
          rw [h.1, h.2, ← he, peer_peer, show ex e.val = e from Fin.ext (ex_val e.isLt)]
        rw [if_pos ⟨hc, rfl⟩, if_pos ⟨h.1, by omega, h.2⟩]
      · rw [if_neg (fun h' => ?_), if_neg (fun h' => h ⟨h'.1, h'.2.2⟩)]
        obtain ⟨h1, h2, h3⟩ := recv_inj h'.1
        exact h ⟨h2.symm, by rw [h1, he, peer_peer]⟩
    · rw [if_neg (fun h' => ?_ : ¬ (recvCell c i e = recvCell (peer d (9 - k)) i' (ex (9 - k)) ∧ () = ())), Nat.add_zero]
      · refine if_congr ?_ rfl rfl
        constructor
        · rintro ⟨h1, h2, h3⟩; exact ⟨h1, by omega, h3⟩
        · rintro ⟨h1, h2, h3⟩; exact ⟨h1, by omega, h3⟩
      · obtain ⟨h1, h2, h3⟩ := recv_inj h'.1
        exact he (by rw [h3]; exact hex)

theorem bar_tally (d c : Dev nD) (b : Fin 4) : (tallyAt (barCell (flip b d)) () 1 : CellTallies nD τ sig Unit) (barCell c) () = if d = flip b c then 1 else 0 := by
  rw [tallyAt_apply]
  refine if_congr ⟨fun h => ?_, fun h => ⟨?_, rfl⟩⟩ rfl rfl
  · rw [bar_inj h.1, flip_flip]
  · rw [h, flip_flip]

theorem owed_bar (d c : Dev nD) : O₀ d (barCell c) () = (((if d = flip 3 c then 1 else 0) + if d = flip 2 c then 1 else 0) + if d = flip 1 c then 1 else 0) + if d = flip 0 c then 1 else 0 := by
  unfold O₀ O1 O2 O3 O4 rem
  simp only [Pi.add_apply, Finsupp.add_apply, remO_bar, bar_tally, Nat.zero_add]

theorem owed_recv (d c : Dev nD) (i : Fin 4) (e : Fin 10) : O₀ d (recvCell c i e) () = if d = peer c e.val then N else 0 := by
  unfold O₀ O1 O2 O3 O4 rem
  have hz (b : Fin 4) : (tallyAt (barCell (flip b d)) () 1 : CellTallies nD τ sig Unit) (recvCell c i e) () = 0 := by
    rw [tallyAt_ne_cell (recv_ne_bar _ _ _ _)]; rfl
  simp only [Pi.add_apply, Finsupp.add_apply, hz, Nat.add_zero, remO_recv d c _ i e 10 le_rfl]
  have h10 : 10 ≤ e.val + 10 := by omega
  obtain rfl | rfl | rfl | rfl : i = 0 ∨ i = 1 ∨ i = 2 ∨ i = 3 := by clear hz; revert i; decide
  all_goals simp [h10]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.sum_ite_eq, Finset.mem_univ, if_true]

theorem launch_recv (c : Dev nD) (i : Fin 4) (e : Fin 10) :
    tallyOn (recvCell c i e) (launchCredit (Pipeline.owing O₀) 0 (recvCell c i e)) = (tallyAt (recvCell c i e) () N : CellTallies nD τ sig Unit) := by
  unfold tallyAt; refine congrArg _ (Finsupp.ext fun u => ?_); cases u
  rw [Pipeline.launchCredit_owing, Finsupp.single_eq_same, Finset.sum_congr rfl fun d _ => owed_recv d c i e]
  simp only [Finset.sum_ite_eq', Finset.sum_ite_eq, Finset.mem_univ, if_true]

theorem recvLoc_inj : Function.Injective (fun p : Fin 4 × Fin 10 => (SemLoc.dma (recvS p.1 p.2) : SemLoc sig)) := fun p q h => by
  obtain ⟨h1, h2⟩ := recvS_inj (SemLoc.dma.inj h)
  exact Prod.ext h1 h2

theorem creds (c : Dev nD) :
    (Pipeline.launchCred O₀ c : sProp 𝕄) ⊢ iprop(cred (tallyAt (barCell c) () 4)
      ∗ bigSep Finset.univ fun i : Fin 4 => bigSep Finset.univ fun e : Fin 10 => cred (tallyAt (recvCell c i e) () N)) := by
  unfold Pipeline.launchCred
  rw [bigSep_univ_at _ (SemLoc.reg barS), launch_bar]
  refine sep_mono_right ?_
  have hs : Finset.univ.map ⟨_, recvLoc_inj⟩ ⊆ Finset.univ.erase (SemLoc.reg barS : SemLoc sig) := fun x hx => by
    obtain ⟨p, -, rfl⟩ := Finset.mem_map.mp hx
    exact Finset.mem_erase.mpr ⟨(fun h => by cases h), Finset.mem_univ _⟩
  have h := bigSep_subset (Φ := fun sm : SemLoc sig => (cred (tallyOn ((c : Thread nD τ), sm) (launchCredit (Pipeline.owing O₀) 0 ((c : Thread nD τ), sm))) : sProp 𝕄)) hs
  have he : bigSep (Finset.univ.map ⟨_, recvLoc_inj⟩) (fun sm : SemLoc sig => (cred (tallyOn ((c : Thread nD τ), sm) (launchCredit (Pipeline.owing O₀) 0 ((c : Thread nD τ), sm))) : sProp 𝕄))
      = bigSep Finset.univ fun i : Fin 4 => bigSep Finset.univ fun e : Fin 10 => cred (tallyAt (recvCell c i e) () N) := by
    rw [bigSep_map, bigSep_univ_prod]
    exact bigSep_congr fun i _ => bigSep_congr fun e _ => congrArg cred (launch_recv c i e)
  rw [he] at h
  exact h

end Cert.Mesh

end
-- ==== Proof.Run.lean ====
/-
# `Run`: every run of the sixteen kernels

Every run of the whole program ends with each device's result array at the computed contents, its input array
unchanged, and every counter at zero.
-/
module

public import proofs.«01_k».proof.Proof.Deal
public import Idealize.ShloMosaic.Lib.Pipeline.CollectiveSegs

@[expose] public section

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem ownSemFacts : Pipeline.OwnSemFacts cfg0.spec osem := by decide

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-- A device's positions, credits and tokens, exchange by exchange. -/
theorem linear_start (K : Dev nD × (Unit ⊕ Fin 80) → ℕ) (c : Dev nD) :
    iprop(recs m ρ K ∗ linear (F := F) c ∗ levAts L lv ∗ cred (tallyAt (barCell c) () 4)
      ∗ bigSep Finset.univ fun i : Fin 4 => bigSep Finset.univ fun e : Fin 10 => cred (tallyAt (recvCell c i e) () N)) ⊢ start m ρ K c := by
  have hat : (bigSep Finset.univ fun k : Unit ⊕ Fin 80 => (atPos ER (kcell (c, k)) 0 ∅ 0 : sProp 𝕄))
      = iprop(atPos ER (barCell c) 0 ∅ 0 ∗ (bigSep Finset.univ fun i : Fin 4 => bigSep Finset.univ fun e : Fin 10 => atPos ER (sendCell c i e) 0 ∅ 0)
          ∗ bigSep Finset.univ fun i : Fin 4 => bigSep Finset.univ fun e : Fin 10 => atPos ER (recvCell c i e) 0 ∅ 0) := by
    rw [bigSep_univ_sum, bigSep_univ_eq_bigSepL [()] (by decide) (by decide)]
    exact congrArg (fun X : sProp 𝕄 => iprop(_ ∗ X)) (bigSep_own fun s => (atPos ER ((c : Thread nD τ), s) 0 ∅ 0 : sProp 𝕄))
  have hex (e : Fin 10) : ex e.val = e := Fin.ext (ex_val e.isLt)
  unfold linear payToks start exR
  rw [hat]
  simp only [hex, bigSep_sep']
  iintro ⟨HR, ⟨⟨HaB, HaS, HaR⟩, HtB, HtS, HtR⟩, Hlev, HcB, HcR⟩
  isplitl [HR]; · iexact HR
  isplitl [Hlev]; · iexact Hlev
  isplitl [HaB]; · iexact HaB
  isplitl [HcB]; · iexact HcB
  isplitl [HtB]; · iexact HtB
  isplitl [HaS]; · iexact HaS
  isplitl [HaR]; · iexact HaR
  isplitl [HcR]; · iexact HcR
  isplitl [HtS]; · iexact HtS
  iexact HtR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop((∃ K, start m ρ K c) ∗ emp) := by
  unfold G'
  iintro ⟨-, Hlev, Hcr, -, ⟨%K, HR, HG⟩⟩
  ihave Hc := (creds (F := F) c) $$ Hcr
  icases Hc with ⟨H1, HN⟩
  imodintro
  isplitl
  · iexists K
    iapply (linear_start m ρ K c)
    isplitl [HR]; · iexact HR
    isplitl [HG]; · iexact HG
    isplitl [Hlev]; · iexact Hlev
    isplitl [H1] <;> iassumption
  · iempintro

theorem phi0_intro (c : Dev nD) :
    iprop((∃ K, start m ρ K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ bufs Pipeline.ownSems0
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What window `w`'s array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every run of the sixteen kernels ends with every device's
    arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := fun c => iprop(∃ K, start m ρ K c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds in the end what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The whole output array is one block, so it holds in the end what the body left in the staging buffer. -/
theorem finalA_o (c : Dev nD) : finalA m ρ c (1 : Fin 2) = outAt m ρ c := by
  have hb : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  have hr := Memref.read_access_unit_zero (Elt F) main_v1 hz (fun a => by fin_cases a <;> decide) (finalA m ρ c (1 : Fin 2))
  exact hr.symm.trans hb

/-- The input window's one block is the whole input array. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) (m ((c : Thread nD τ).loc main_arg0))

end Cert.Mesh

end
-- ==== Proof.Frames.lean ====
/-
# `Frames`: the kernel as written, its idealization and the reference each run and leave no trace

Each of the three runs to its end from any memory, leaves its argument array as it was and every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Mesh

open Idealize.ShloMosaic
open Idealize.ShloMosaic.TcCoe
open Idealize.SL.Sem

instance kernelFacts : Cert.Kernel.Facts := Cert.Kernel.Gen.facts
instance idealFacts : Cert.KernelIdeal.Facts := Cert.KernelIdeal.Gen.facts
instance referenceFacts : Cert.ReferenceIdeal.Facts := Cert.ReferenceIdeal.Gen.facts

/-- The idealized kernel. -/
theorem frame_ideal : Cert.quiescent_KernelIdeal := fun m ρ _ =>
  (θ_run Cert.KernelIdeal.defs _ _).mono (fun _ h => ⟨fun c => (h.1 c (0 : Fin 2)).trans (finalA_x m ρ c), h.2⟩) (run_main (F := Ideal) m ρ)

/-- The two kernels have the same procedures: the label is the only one, and its body is the same text. -/
theorem defs₀_same : @Cert.Kernel.defs₀ Bits _ _ = @Cert.KernelIdeal.defs₀ Bits _ _ := by
  refine congrArg Defs.onTc (funext fun l => funext fun a => ?_)
  match l, a with
  | ⟨0, _⟩, (t, s) => rfl
  | ⟨_ + 1, h⟩, _ => exact absurd h (Nat.not_lt.2 (Nat.le_add_left _ _))

/-- Hence the same procedures once the pipeline's own are added. -/
theorem defs_same : @Cert.Kernel.defs Bits _ _ = @Cert.KernelIdeal.defs Bits _ _ :=
  congrArg (Pipeline.defs (Cert.KernelIdeal.pcfgs (F := Bits))) defs₀_same

/-- The kernel at the machine's own floats: the same text, so the same run. -/
theorem frame_kernel : Cert.quiescent_Kernel := fun m ρ _ => by
  rw [defs_same]
  exact (θ_run Cert.KernelIdeal.defs _ _).mono
    (fun _ h => ⟨fun c => (h.1 c (0 : Fin 2)).trans (finalA_x m ρ c), h.2⟩) (run_main (F := Bits) m ρ)

/-- The reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Mesh

end
-- ==== Proof.Passes.lean ====
/-
# `Passes`: the kernel's vector work as a chain of passes over rows

The kernel works on a panel of rows by views: rows are seen as groups of two runs of `2 ^ s` rows each, the two runs of
every group are compared (`up`, `way`), swapped (`turn`) or one of them is reversed (`run`), and the groups are laid
out as rows again. This module names these passes, for any number `2 ^ p` of rows, and the chains of them that sort
(`sortUp`), merge (`ways`) and reverse (`rows`).
-/
module

public import Idealize.ShloMosaic.PureOps
public import Idealize.ShloMosaic.Lib.ShapeFacts

@[expose] public section

noncomputable section

namespace Cert.Passes

open Idealize.ShloMosaic

/-! ## Shapes -/

/-- `n` rows of 128 columns. -/
abbrev R (n : ℕ) : Shape := ⟨2, ![n, 128]⟩
/-- `g` groups of two runs of `j` rows. -/
abbrev A4 (g j : ℕ) : Shape := ⟨4, ![g, 2, j, 128]⟩
/-- `g` groups of one run of `j` rows, the run written as an axis. -/
abbrev A1 (g j : ℕ) : Shape := ⟨4, ![g, 1, j, 128]⟩
/-- `g` runs of `j` rows. -/
abbrev A3 (g j : ℕ) : Shape := ⟨3, ![g, j, 128]⟩

theorem slices_lo (g j : ℕ) : (A4 g j).Slices ![0, 0, 0, 0] (A1 g j) :=
  ⟨rfl, fun a => by fin_cases a <;> first | exact (Nat.zero_add _).le | exact Nat.le_succ 1⟩
theorem slices_hi (g j : ℕ) : (A4 g j).Slices ![0, 1, 0, 0] (A1 g j) :=
  ⟨rfl, fun a => by fin_cases a <;> first | exact (Nat.zero_add _).le | exact Nat.le_refl 2⟩
theorem casts_drop (g j : ℕ) : (A1 g j).ShapeCasts (A3 g j) := by
  simp [Shape.ShapeCasts, Shape.numel_rank3, Shape.numel_rank4]
theorem casts_add (g j : ℕ) : (A3 g j).ShapeCasts (A1 g j) := by
  simp [Shape.ShapeCasts, Shape.numel_rank3, Shape.numel_rank4]
theorem casts_spl {g j n : ℕ} (h : g * 2 * j = n) : (R n).ShapeCasts (A4 g j) := by
  subst h; simp [Shape.ShapeCasts, Shape.numel_rank2, Shape.numel_rank4]
theorem casts_joi {g j n : ℕ} (h : g * 2 * j = n) : (A4 g j).ShapeCasts (R n) := by
  subst h; simp [Shape.ShapeCasts, Shape.numel_rank2, Shape.numel_rank4]
theorem casts_flat {g j n : ℕ} (h : g * j = n) : (A3 g j).ShapeCasts (R n) := by
  subst h; simp [Shape.ShapeCasts, Shape.numel_rank2, Shape.numel_rank3]
theorem casts_rise {g j n : ℕ} (h : g * j = n) : (R n).ShapeCasts (A1 g j) := by
  subst h; simp [Shape.ShapeCasts, Shape.numel_rank2, Shape.numel_rank4]

/-- The two runs of `2 ^ s` rows of each of `2 ^ (p - 1 - s)` groups are `2 ^ p` rows. -/
theorem whole {p s : ℕ} (h : s < p) : 2 ^ (p - 1 - s) * 2 * 2 ^ s = 2 ^ p := by
  rw [← pow_succ, ← pow_add]; congr 1; omega
/-- One run of each group: half of the rows. -/
theorem half {p s : ℕ} (h : s ≤ p) : 2 ^ (p - s) * 2 ^ s = 2 ^ p := by
  rw [← pow_add]; congr 1; omega

/-! ## Layout -/

section layout
variable {α : Type}

/-- The first run of every group. -/
def lo (g j : ℕ) (X : (A4 g j).Idx → α) : (A1 g j).Idx → α := extractStridedSlice (A1 g j) ![0, 0, 0, 0] X (slices_lo g j)
/-- The second run of every group. -/
def hi (g j : ℕ) (X : (A4 g j).Idx → α) : (A1 g j).Idx → α := extractStridedSlice (A1 g j) ![0, 1, 0, 0] X (slices_hi g j)
/-- Two families of runs put together, group by group. -/
def pair (g j : ℕ) (U V : (A1 g j).Idx → α) : (A4 g j).Idx → α :=
  concatenate (A4 g j) 1 [⟨A1 g j, U⟩, ⟨A1 g j, V⟩] (Shape.concatenates_axis1_rank4 g 1 1 j 128)
/-- A run without its axis. -/
def drop (g j : ℕ) (U : (A1 g j).Idx → α) : (A3 g j).Idx → α := shapeCast (A3 g j) U (casts_drop g j)
/-- A run with its axis. -/
def add (g j : ℕ) (U : (A3 g j).Idx → α) : (A1 g j).Idx → α := shapeCast (A1 g j) U (casts_add g j)
/-- Rows seen as groups. -/
def spl (g j : ℕ) {n : ℕ} (h : g * 2 * j = n) (X : (R n).Idx → α) : (A4 g j).Idx → α := shapeCast (A4 g j) X (casts_spl h)
/-- Groups seen as rows. -/
def joi (g j : ℕ) {n : ℕ} (h : g * 2 * j = n) (X : (A4 g j).Idx → α) : (R n).Idx → α := shapeCast (R n) X (casts_joi h)
/-- Runs seen as rows. -/
def flat (g j : ℕ) {n : ℕ} (h : g * j = n) (X : (A3 g j).Idx → α) : (R n).Idx → α := shapeCast (R n) X (casts_flat h)
/-- Rows seen as runs. -/
def rise (g j : ℕ) {n : ℕ} (h : g * j = n) (X : (R n).Idx → α) : (A1 g j).Idx → α := shapeCast (A1 g j) X (casts_rise h)

/-- The two runs of every group change places. -/
def turn (p s : ℕ) (h : s < p) (X : (R (2 ^ p)).Idx → α) : (R (2 ^ p)).Idx → α :=
  joi (2 ^ (p - 1 - s)) (2 ^ s) (whole h)
    (pair _ _ (hi _ _ (spl (2 ^ (p - 1 - s)) (2 ^ s) (whole h) X)) (lo _ _ (spl (2 ^ (p - 1 - s)) (2 ^ s) (whole h) X)))

/-- Every aligned run of `2 ^ l` rows reversed, by changing places at distances `1, 2, …, 2 ^ (l - 1)`. -/
def rows (p : ℕ) : (l : ℕ) → l ≤ p → ((R (2 ^ p)).Idx → α) → (R (2 ^ p)).Idx → α
  | 0, _, X => X
  | l + 1, h, X => turn p l h (rows p l (Nat.le_of_succ_le h) X)

/-- In every group of two runs of `2 ^ l` rows the second run is reversed. -/
def run (p l : ℕ) (h : l ≤ p) (X : (R (2 ^ (p + 1))).Idx → α) : (R (2 ^ (p + 1))).Idx → α :=
  joi (2 ^ (p - l)) (2 ^ l) (whole (Nat.lt_succ_of_le h))
    (pair _ _ (lo _ _ (spl (2 ^ (p - l)) (2 ^ l) (whole (Nat.lt_succ_of_le h)) X))
      (rise (2 ^ (p - l)) (2 ^ l) (half h)
        (rows p l h (flat (2 ^ (p - l)) (2 ^ l) (half h)
          (drop _ _ (hi _ _ (spl (2 ^ (p - l)) (2 ^ l) (whole (Nat.lt_succ_of_le h)) X)))))))

end layout

/-! ## Comparing -/

section compare
variable {F : FTy → Type} [FloatOps F]

/-- In every group the lesser keys go to the first run, the greater to the second. -/
def up (p s : ℕ) (h : s < p) (X : FVec F (R (2 ^ p)) .bf16) : FVec F (R (2 ^ p)) .bf16 :=
  joi (2 ^ (p - 1 - s)) (2 ^ s) (whole h)
    (pair _ _
      (add _ _ (minimumf (drop _ _ (lo _ _ (spl (2 ^ (p - 1 - s)) (2 ^ s) (whole h) X)))
        (drop _ _ (hi _ _ (spl (2 ^ (p - 1 - s)) (2 ^ s) (whole h) X)))))
      (add _ _ (maximumf (drop _ _ (lo _ _ (spl (2 ^ (p - 1 - s)) (2 ^ s) (whole h) X)))
        (drop _ _ (hi _ _ (spl (2 ^ (p - 1 - s)) (2 ^ s) (whole h) X))))))

/-- The same if `a` is one; else the greater keys go to the first run. -/
def way (p s : ℕ) (h : s < p) (a : BitVec 1) (X : FVec F (R (2 ^ p)) .bf16) : FVec F (R (2 ^ p)) .bf16 :=
  joi (2 ^ (p - 1 - s)) (2 ^ s) (whole h)
    (pair _ _
      (add _ _ (Scalar.select a
        (minimumf (drop _ _ (lo _ _ (spl (2 ^ (p - 1 - s)) (2 ^ s) (whole h) X)))
          (drop _ _ (hi _ _ (spl (2 ^ (p - 1 - s)) (2 ^ s) (whole h) X))))
        (maximumf (drop _ _ (lo _ _ (spl (2 ^ (p - 1 - s)) (2 ^ s) (whole h) X)))
          (drop _ _ (hi _ _ (spl (2 ^ (p - 1 - s)) (2 ^ s) (whole h) X))))))
      (add _ _ (Scalar.select a
        (maximumf (drop _ _ (lo _ _ (spl (2 ^ (p - 1 - s)) (2 ^ s) (whole h) X)))
          (drop _ _ (hi _ _ (spl (2 ^ (p - 1 - s)) (2 ^ s) (whole h) X))))
        (minimumf (drop _ _ (lo _ _ (spl (2 ^ (p - 1 - s)) (2 ^ s) (whole h) X)))
          (drop _ _ (hi _ _ (spl (2 ^ (p - 1 - s)) (2 ^ s) (whole h) X)))))))

/-- The passes at distances `2 ^ (n - 1), …, 2, 1`. -/
def ups (p : ℕ) : (n : ℕ) → n ≤ p → FVec F (R (2 ^ p)) .bf16 → FVec F (R (2 ^ p)) .bf16
  | 0, _, X => X
  | n + 1, h, X => ups p n (Nat.le_of_succ_le h) (up p n h X)

/-- The passes in direction `a` at distances `2 ^ (n - 1), …, 2, 1`. -/
def ways (p : ℕ) (a : BitVec 1) : (n : ℕ) → n ≤ p → FVec F (R (2 ^ p)) .bf16 → FVec F (R (2 ^ p)) .bf16
  | 0, _, X => X
  | n + 1, h, X => ways p a n (Nat.le_of_succ_le h) (way p n h a X)

/-- The first `t` levels of the sort: a level reverses every second run and merges each two runs. -/
def sortUp (p : ℕ) : (t : ℕ) → t ≤ p + 1 → FVec F (R (2 ^ (p + 1))) .bf16 → FVec F (R (2 ^ (p + 1))) .bf16
  | 0, _, X => X
  | t + 1, h, X => ups (p + 1) (t + 1) h (run p t (Nat.le_of_succ_le_succ h) (sortUp p t (Nat.le_of_succ_le h) X))

end compare

end Cert.Passes

end
-- ==== Proof.Chain.lean ====
/-
# `Chain`: what one block computes, as passes

The kernel's chains of layout and compare instructions, piece by piece, are the passes of `Passes`: the sort a device
does on its own panel is `sortUp` of all eleven levels, reversed on an odd device, and the merge that ends a run is
`ways`.
-/
module

public import proofs.«01_k».proof.Proof.Contents
public import proofs.«01_k».proof.Proof.Passes

@[expose] public section

noncomputable section

namespace Cert.Mesh

open Cert.KernelIdeal Cert.KernelIdeal.Gen Cert.Passes
open Idealize.ShloMosaic Idealize.SL.Sem

variable {F : FTy → Type} [FloatOps F]

/-- A device's rows of a panel. -/
abbrev Rows (F : FTy → Type) : Type := FVec F (R (2 ^ 11)) .bf16

/-- The rising pass at distance `2 ^ s` on a device's rows. -/
abbrev u (s : ℕ) (X : Rows F) (h : s < 11 := by decide) : Rows F := up 11 s h X
/-- The reversal of every second run of `2 ^ s` of a device's rows. -/
abbrev r (s : ℕ) (X : Rows F) (h : s ≤ 10 := by decide) : Rows F := run 10 s h X
/-- A device's rows seen as groups of two runs. -/
abbrev g (a b : ℕ) (X : Rows F) (h : a * 2 * b = 2 ^ 11 := by decide) : FVec F (A4 a b) .bf16 := spl a b h X
/-- Groups of two runs seen as a device's rows. -/
abbrev f (a b : ℕ) (X : FVec F (A4 a b) .bf16) (h : a * 2 * b = 2 ^ 11 := by decide) : Rows F := joi a b h X

theorem piece_one (v : Vec F S2048x128 .bf16) : f 1024 1 (k0_pay4 v) =
    u 0 (u 1 (r 1 (u 0 (r 0 (shapeCast S2048x128 v shapeCasts_S2048x128_S2048x128))))) := rfl
theorem piece_two (v : FVec F S1024x2x1x128 .bf16) : k0_pay10 (k0_pay6 v) (k0_pay8 v) (k0_pay9 v) =
    g 64 16 (u 0 (u 1 (u 2 (u 3 (r 3 (u 0 (u 1 (u 2 (r 2 (f 1024 1 v))))))))))  := rfl
theorem piece_three (X : Rows F) : k0_pay11 (g 64 16 X) = u 2 (u 3 (u 4 (r 4 X))) := rfl
theorem piece_four (X : Rows F) : f 1024 1 (k0_pay15 (k0_pay13 X) (k0_pay14 X)) =
    u 0 (u 1 (u 2 (u 3 (u 4 (u 5 (r 5 (u 0 (u 1 X)))))))) := rfl
theorem piece_five (v : FVec F S1024x2x1x128 .bf16) : f 32 32 (k0_pay16 v) = u 5 (u 6 (r 6 (f 1024 1 v))) := rfl
theorem piece_six (v : FVec F S32x2x32x128 .bf16) : f 16 64 (k0_pay20 (k0_pay18 v) (k0_pay19 v)) =
    u 6 (u 7 (r 7 (u 0 (u 1 (u 2 (u 3 (u 4 (f 32 32 v)))))))) := rfl
theorem piece_seven (v : FVec F S16x2x64x128 .bf16) :
    f 128 8 (k0_pay27 (k0_pay25 (k0_pay22 v) (k0_pay23 v)) (k0_pay26 (k0_pay22 v) (k0_pay23 v))) =
    u 3 (u 4 (u 5 (u 6 (u 7 (u 8 (r 8 (u 0 (u 1 (u 2 (u 3 (u 4 (u 5 (f 16 64 v))))))))))))) := rfl
theorem piece_eight (v : FVec F S128x2x8x128 .bf16) : k0_pay31 (k0_pay29 v) (k0_pay30 v) =
    u 7 (u 8 (u 9 (r 9 (u 0 (u 1 (u 2 (f 128 8 v))))))) := rfl
theorem piece_nine (X : Rows F) : k0_pay40 (k0_pay36 (k0_pay33 X) (k0_pay34 X)) (k0_pay38 (k0_pay33 X) (k0_pay34 X))
      (k0_pay39 (k0_pay33 X) (k0_pay34 X)) =
    g 16 64 (u 7 (u 8 (u 9 (u 10 (r 10 (u 0 (u 1 (u 2 (u 3 (u 4 (u 5 (u 6 X)))))))))))) := rfl
theorem piece_ten (X : Rows F) : k0_pay45 (k0_pay42 (g 16 64 X)) (k0_pay43 (g 16 64 X)) (k0_pay44 (g 16 64 X)) =
    u 0 (u 1 (u 2 (u 3 (u 4 (u 5 (u 6 X)))))) := rfl

/-- The reversal of a device's rows, by changing places at distances `1, 2, …, 1024`. -/
abbrev rev (X : Rows F) : Rows F := rows 11 11 le_rfl X

/-- The bit a device's number gives to `c`: one on an odd device. -/
abbrev odd (c : Dev nD) : BitVec 1 :=
  Scalar.cmpi .eq (Scalar.andi (Scalar.remsi (Scalar.divsi (Dev.word c) 1#32) 16#32) 1#32) 1#32

theorem piece_last (c : Dev nD) (X : Rows F) (w : FVec F S512x2x128 .bf16) (w' : FVec F S512x2x128 .bf16)
    (w'' : FVec F S512x2x128 .bf16) (h : k0_pay45 w w' w'' = X) : k0_pay87 c (k0_pay45 w w' w'') (k0_pay46 w w' w'') =
    shapeCast S1x2048x128 (Scalar.select (odd c) (rev X) X) shapeCasts_S2048x128_S1x2048x128 := by
  subst h; rfl

/-- The pass in direction `a` at distance `2 ^ s` on a device's rows. -/
abbrev w (a : BitVec 1) (s : ℕ) (X : Rows F) (h : s < 11 := by decide) : Rows F := way 11 s h a X

theorem piece_merge_one (a : BitVec 1) (X : Vec F S1x2048x128 .bf16) : k0_pay47 a X =
    g 16 64 (w a 7 (w a 8 (w a 9 (w a 10 (shapeCast S2048x128 X shapeCasts_S1x2048x128_S2048x128))))) := rfl
theorem piece_merge_two (a : BitVec 1) (X : Vec F S1x2048x128 .bf16) (Y : Rows F) (h : k0_pay47 a X = g 16 64 Y) :
    merge a X = shapeCast S1x2048x128 (w a 0 (w a 1 (w a 2 (w a 3 (w a 4 (w a 5 (w a 6 Y)))))))
      shapeCasts_S2048x128_S1x2048x128 := by
  unfold merge k0_pay48
  rw [h]; rfl

/-- What the local merge computes: all passes in direction `a`. -/
theorem merge_eq (a : BitVec 1) (X : Vec F S1x2048x128 .bf16) : merge a X =
    shapeCast S1x2048x128 (ways 11 a 11 le_rfl (shapeCast S2048x128 X shapeCasts_S1x2048x128_S2048x128))
      shapeCasts_S2048x128_S1x2048x128 :=
  piece_merge_two a X _ (piece_merge_one a X)

/-- What a device's own sort computes: all eleven levels, reversed on an odd device. -/
theorem presort_eq (c : Dev nD) (v : Vec F S2048x128 .bf16) : presort c v =
    shapeCast S1x2048x128 (Scalar.select (odd c)
      (rev (sortUp 10 11 le_rfl (shapeCast S2048x128 v shapeCasts_S2048x128_S2048x128)))
      (sortUp 10 11 le_rfl (shapeCast S2048x128 v shapeCasts_S2048x128_S2048x128))) shapeCasts_S2048x128_S1x2048x128 := by
  unfold presort
  dsimp only
  refine piece_last c _ _ _ _ ?_
  rw [piece_nine, piece_ten, piece_eight, piece_seven, piece_six, piece_five, piece_four, piece_two, piece_three, piece_one]
  rfl

end Cert.Mesh

end
-- ==== Proof.Reads.lean ====
/-
# `Reads`: a pass read at a row

What every layout step of `Passes` holds at an index: row `(2 a + b) j + k` of rows is row `k` of run `b` of group `a`.
-/
module

public import proofs.«01_k».proof.Proof.Passes
public import Idealize.ShloMosaic.Lib.Pipeline.Value
public import Idealize.ShloMosaic.Lib.Pointwise.Index

@[expose] public section

namespace Cert.Passes

open Idealize.ShloMosaic

variable {α : Type} {g j n : ℕ}

/-- Groups laid out as rows. -/
theorem joi_apply (h : g * 2 * j = n) (X : (A4 g j).Idx → α) (i : Fin n) (q : Fin 128) (a : Fin g) (b : Fin 2) (k : Fin j)
    (hi : i.val = (a.val * 2 + b.val) * j + k.val) : joi g j h X (ix2 i q) = X (ix4 a b k q) :=
  shapeCast_apply X _ _ _ (by
    rw [Shape.rowMajor_val_four, Shape.rowMajor_val_two]
    show ((a.val * 2 + b.val) * j + k.val) * 128 + q.val = i.val * 128 + q.val
    rw [hi])

/-- Rows seen as groups. -/
theorem spl_apply (h : g * 2 * j = n) (X : (R n).Idx → α) (i : Fin n) (q : Fin 128) (a : Fin g) (b : Fin 2) (k : Fin j)
    (hi : i.val = (a.val * 2 + b.val) * j + k.val) : spl g j h X (ix4 a b k q) = X (ix2 i q) :=
  shapeCast_apply X _ _ _ (by
    rw [Shape.rowMajor_val_four, Shape.rowMajor_val_two]
    show i.val * 128 + q.val = ((a.val * 2 + b.val) * j + k.val) * 128 + q.val
    rw [hi])

/-- Runs laid out as rows. -/
theorem flat_apply (h : g * j = n) (X : (A3 g j).Idx → α) (i : Fin n) (q : Fin 128) (a : Fin g) (k : Fin j)
    (hi : i.val = a.val * j + k.val) : flat g j h X (ix2 i q) = X (ix3 a k q) :=
  shapeCast_apply X _ _ _ (by
    rw [Shape.rowMajor_val_three, Shape.rowMajor_val_two]
    show (a.val * j + k.val) * 128 + q.val = i.val * 128 + q.val
    rw [hi])

/-- Rows seen as runs. -/
theorem rise_apply (h : g * j = n) (X : (R n).Idx → α) (i : Fin n) (q : Fin 128) (a : Fin g) (k : Fin j)
    (hi : i.val = a.val * j + k.val) : rise g j h X (ix4 a 0 k q) = X (ix2 i q) :=
  shapeCast_apply X _ _ _ (by
    rw [Shape.rowMajor_val_four, Shape.rowMajor_val_two]
    show i.val * 128 + q.val = ((a.val * 1 + 0) * j + k.val) * 128 + q.val
    rw [hi, Nat.mul_one, Nat.add_zero])

/-- A run without its axis. -/
theorem drop_apply (U : (A1 g j).Idx → α) (a : Fin g) (k : Fin j) (q : Fin 128) : drop g j U (ix3 a k q) = U (ix4 a 0 k q) :=
  shapeCast_apply U _ _ _ (by
    rw [Shape.rowMajor_val_four, Shape.rowMajor_val_three]
    show ((a.val * 1 + 0) * j + k.val) * 128 + q.val = (a.val * j + k.val) * 128 + q.val
    rw [Nat.mul_one, Nat.add_zero])

/-- A run with its axis. -/
theorem add_apply (U : (A3 g j).Idx → α) (a : Fin g) (k : Fin j) (q : Fin 128) : add g j U (ix4 a 0 k q) = U (ix3 a k q) :=
  shapeCast_apply U _ _ _ (by
    rw [Shape.rowMajor_val_four, Shape.rowMajor_val_three]
    show (a.val * j + k.val) * 128 + q.val = ((a.val * 1 + 0) * j + k.val) * 128 + q.val
    rw [Nat.mul_one, Nat.add_zero])

/-- The first runs. -/
theorem lo_apply (X : (A4 g j).Idx → α) (a : Fin g) (k : Fin j) (q : Fin 128) : lo g j X (ix4 a 0 k q) = X (ix4 a 0 k q) :=
  extractStridedSlice_apply _ X _ _ _ fun d => by
    match d with
    | ⟨0, _⟩ => exact (Nat.zero_add _).symm
    | ⟨1, _⟩ => rfl
    | ⟨2, _⟩ => exact (Nat.zero_add _).symm
    | ⟨3, _⟩ => exact (Nat.zero_add _).symm

/-- The second runs. -/
theorem hi_apply (X : (A4 g j).Idx → α) (a : Fin g) (k : Fin j) (q : Fin 128) : hi g j X (ix4 a 0 k q) = X (ix4 a 1 k q) :=
  extractStridedSlice_apply _ X _ _ _ fun d => by
    match d with
    | ⟨0, _⟩ => exact (Nat.zero_add _).symm
    | ⟨1, _⟩ => rfl
    | ⟨2, _⟩ => exact (Nat.zero_add _).symm
    | ⟨3, _⟩ => exact (Nat.zero_add _).symm

/-- The first runs of a pair. -/
theorem pair_lo (U V : (A1 g j).Idx → α) (a : Fin g) (k : Fin j) (q : Fin 128) : pair g j U V (ix4 a 0 k q) = U (ix4 a 0 k q) :=
  concatenate_pair_apply_left (t := A4 g j) (s₁ := A1 g j) (s₂ := A1 g j) 1 U V _ _ rfl _ fun d => by
    match d with
    | ⟨0, _⟩ => rfl
    | ⟨1, _⟩ => rfl
    | ⟨2, _⟩ => rfl
    | ⟨3, _⟩ => rfl

/-- The second runs of a pair. -/
theorem pair_hi (U V : (A1 g j).Idx → α) (a : Fin g) (k : Fin j) (q : Fin 128) : pair g j U V (ix4 a 1 k q) = V (ix4 a 0 k q) :=
  concatenate_pair_apply_right (t := A4 g j) (s₁ := A1 g j) (s₂ := A1 g j) 1 U V _ _ rfl rfl _ (fun d hd => by
    match d with
    | ⟨0, _⟩ => rfl
    | ⟨1, _⟩ => exact absurd rfl hd
    | ⟨2, _⟩ => rfl
    | ⟨3, _⟩ => rfl) rfl

/-- Two runs that change places, read at a row of a first run. -/
theorem turn_lo {p s : ℕ} (h : s < p) (X : (R (2 ^ p)).Idx → α) (i i' : Fin (2 ^ p)) (q : Fin 128) (a : Fin (2 ^ (p - 1 - s)))
    (k : Fin (2 ^ s)) (hi : i.val = (a.val * 2 + 0) * 2 ^ s + k.val) (hi' : i'.val = (a.val * 2 + 1) * 2 ^ s + k.val) :
    turn p s h X (ix2 i q) = X (ix2 i' q) := by
  unfold turn
  rw [joi_apply _ _ i q a 0 k hi, pair_lo, hi_apply, spl_apply _ _ i' q a 1 k hi']

/-- Two runs that change places, read at a row of a second run. -/
theorem turn_hi {p s : ℕ} (h : s < p) (X : (R (2 ^ p)).Idx → α) (i i' : Fin (2 ^ p)) (q : Fin 128) (a : Fin (2 ^ (p - 1 - s)))
    (k : Fin (2 ^ s)) (hi : i.val = (a.val * 2 + 0) * 2 ^ s + k.val) (hi' : i'.val = (a.val * 2 + 1) * 2 ^ s + k.val) :
    turn p s h X (ix2 i' q) = X (ix2 i q) := by
  unfold turn
  rw [joi_apply _ _ i' q a 1 k hi', pair_hi, lo_apply, spl_apply _ _ i q a 0 k hi]

/-- The first run of a group is kept when the second is reversed. -/
theorem run_lo {p l : ℕ} (h : l ≤ p) (X : (R (2 ^ (p + 1))).Idx → α) (i : Fin (2 ^ (p + 1))) (q : Fin 128)
    (a : Fin (2 ^ (p - l))) (k : Fin (2 ^ l)) (hi : i.val = (a.val * 2 + 0) * 2 ^ l + k.val) :
    run p l h X (ix2 i q) = X (ix2 i q) := by
  unfold run
  rw [joi_apply _ _ i q a 0 k hi, pair_lo, lo_apply, spl_apply _ _ i q a 0 k hi]

/-- The second runs, as rows of their own, are reversed by `rows`. -/
theorem run_hi {p l : ℕ} (h : l ≤ p) (X : (R (2 ^ (p + 1))).Idx → α) (i i' : Fin (2 ^ (p + 1))) (q : Fin 128)
    (a : Fin (2 ^ (p - l))) (k k' : Fin (2 ^ l)) (hi : i.val = (a.val * 2 + 1) * 2 ^ l + k.val)
    (hi' : i'.val = (a.val * 2 + 1) * 2 ^ l + k'.val) (m m' : Fin (2 ^ p)) (hm : m.val = a.val * 2 ^ l + k.val)
    (hm' : m'.val = a.val * 2 ^ l + k'.val)
    (hr : ∀ Y : (R (2 ^ p)).Idx → α, rows p l h Y (ix2 m q) = Y (ix2 m' q)) : run p l h X (ix2 i q) = X (ix2 i' q) := by
  unfold run
  rw [joi_apply _ _ i q a 1 k hi, pair_hi, rise_apply _ _ m q a k hm, hr, flat_apply _ _ m' q a k' hm', drop_apply, hi_apply,
    spl_apply _ _ i' q a 1 k' hi']

section compare
variable {F : FTy → Type} [FloatOps F]

/-- A comparing pass, read at a row of a first run. -/
theorem way_lo {p s : ℕ} (h : s < p) (d : BitVec 1) (X : FVec F (R (2 ^ p)) .bf16) (i i' : Fin (2 ^ p)) (q : Fin 128)
    (a : Fin (2 ^ (p - 1 - s))) (k : Fin (2 ^ s)) (hi : i.val = (a.val * 2 + 0) * 2 ^ s + k.val)
    (hi' : i'.val = (a.val * 2 + 1) * 2 ^ s + k.val) : way p s h d X (ix2 i q) =
      if d = 1 then FloatOps.minimumf (X (ix2 i q)) (X (ix2 i' q)) else FloatOps.maximumf (X (ix2 i q)) (X (ix2 i' q)) := by
  unfold way
  rw [joi_apply _ _ i q a 0 k hi, pair_lo, add_apply]
  unfold Scalar.select minimumf maximumf
  split <;> dsimp only <;> rw [drop_apply, drop_apply, lo_apply, hi_apply, spl_apply _ _ i q a 0 k hi, spl_apply _ _ i' q a 1 k hi']

/-- A comparing pass, read at a row of a second run. -/
theorem way_hi {p s : ℕ} (h : s < p) (d : BitVec 1) (X : FVec F (R (2 ^ p)) .bf16) (i i' : Fin (2 ^ p)) (q : Fin 128)
    (a : Fin (2 ^ (p - 1 - s))) (k : Fin (2 ^ s)) (hi : i.val = (a.val * 2 + 0) * 2 ^ s + k.val)
    (hi' : i'.val = (a.val * 2 + 1) * 2 ^ s + k.val) : way p s h d X (ix2 i' q) =
      if d = 1 then FloatOps.maximumf (X (ix2 i q)) (X (ix2 i' q)) else FloatOps.minimumf (X (ix2 i q)) (X (ix2 i' q)) := by
  unfold way
  rw [joi_apply _ _ i' q a 1 k hi', pair_hi, add_apply]
  unfold Scalar.select minimumf maximumf
  split <;> dsimp only <;> rw [drop_apply, drop_apply, lo_apply, hi_apply, spl_apply _ _ i q a 0 k hi, spl_apply _ _ i' q a 1 k hi']

/-- The rising pass is the pass in direction one. -/
theorem up_eq {p s : ℕ} (h : s < p) (X : FVec F (R (2 ^ p)) .bf16) : up p s h X = way p s h 1 X := rfl

end compare

end Cert.Passes
-- ==== Proof.Columns.lean ====
/-
# `Columns`: a pass on one column

Every pass acts on each column of the rows alone. A comparing pass is one stage of a sorting network; a chain of them is
the network's merge; a reversal reads the column at positions with the low bits flipped.
-/
module

public import proofs.«01_k».proof.Proof.Reads
public import Idealize.ShloMosaic.Lib.SortNet.Sorts
public import Idealize.ShloMosaic.Lib.SortNet.Ascending
public import Idealize.ShloMosaic.PureOps.Ideal

@[expose] public section

namespace Cert.Passes

open Idealize.ShloMosaic Idealize.ShloMosaic.SortNet

/-- Column `q` of rows. -/
def col {α : Type} {n : ℕ} (X : (R n).Idx → α) (q : Fin 128) : Fin n → α := fun i => X (ix2 i q)

/-- A row with bit `s` clear is row `k` of the first run of a group, and its partner is row `k` of the second. -/
theorem groups {p s : ℕ} (h : s < p) (i : Fin (2 ^ p)) (hi : i.val &&& 2 ^ s = 0) : ∃ (a : Fin (2 ^ (p - 1 - s))) (k : Fin (2 ^ s)),
    i.val = (a.val * 2 + 0) * 2 ^ s + k.val ∧ (partner p s i).val = (a.val * 2 + 1) * 2 ^ s + k.val := by
  have hb : i.val / 2 ^ s % 2 = 0 := by
    rw [and_two_pow_eq_zero_iff_testBit, Nat.testBit_eq_decide_div_mod_eq, decide_eq_false_iff_not] at hi
    omega
  have hd := Nat.div_add_mod i.val (2 ^ s)
  have ha : i.val / 2 ^ s / 2 < 2 ^ (p - 1 - s) := by
    rw [Nat.div_lt_iff_lt_mul (by decide), Nat.div_lt_iff_lt_mul (Nat.two_pow_pos s), whole h]
    exact i.isLt
  have he : i.val = (i.val / 2 ^ s / 2 * 2 + 0) * 2 ^ s + i.val % 2 ^ s := by
    rw [show i.val / 2 ^ s / 2 * 2 + 0 = i.val / 2 ^ s by omega, Nat.mul_comm]; exact hd.symm
  refine ⟨⟨i.val / 2 ^ s / 2, ha⟩, ⟨i.val % 2 ^ s, Nat.mod_lt _ (Nat.two_pow_pos s)⟩, he, ?_⟩
  rw [partner_val_of_clear h i hi]
  show i.val + 2 ^ s = (i.val / 2 ^ s / 2 * 2 + 1) * 2 ^ s + i.val % 2 ^ s
  rw [Nat.add_mul, Nat.one_mul]
  rw [Nat.add_zero] at he
  omega

/-- A row with bit `s` set is the partner of its partner, which has it clear. -/
theorem clear_or_partner {p s : ℕ} (h : s < p) (i : Fin (2 ^ p)) :
    i.val &&& 2 ^ s = 0 ∨ ∃ i₀ : Fin (2 ^ p), i₀.val &&& 2 ^ s = 0 ∧ i = partner p s i₀ := by
  by_cases hi : i.val &&& 2 ^ s = 0
  · exact Or.inl hi
  · exact Or.inr ⟨partner p s i, partner_and_of_set h i hi, (partner_partner h i).symm⟩

/-- The mask of the low `l` bits is within `2 ^ p` positions. -/
theorem mask_lt {p l : ℕ} (h : l ≤ p) : 2 ^ l - 1 < 2 ^ p := by
  have := Nat.pow_le_pow_right (n := 2) (by decide) h
  have := Nat.two_pow_pos l
  omega

/-- Flipping the low `l` bits, after bit `l`, flips the low `l + 1` bits. -/
theorem flip_flip (x l : ℕ) : (x ^^^ 2 ^ l) ^^^ (2 ^ l - 1) = x ^^^ (2 ^ (l + 1) - 1) := by
  rw [Nat.xor_assoc]
  congr 1
  apply Nat.eq_of_testBit_eq
  intro t
  rw [Nat.testBit_xor, Nat.testBit_two_pow, Nat.testBit_two_pow_sub_one, Nat.testBit_two_pow_sub_one]
  rcases lt_trichotomy t l with h | h | h
  · simp [h, Nat.lt_succ_of_lt h, h.ne']
  · simp [h]
  · simp [h.ne, h.not_gt, Nat.not_lt.mpr (Nat.succ_le_of_lt h)]

/-! ## Reversals -/

section layout
variable {α : Type}

/-- Changing places at distance `2 ^ s` reads a column at the partner. -/
theorem col_turn {p s : ℕ} (h : s < p) (X : (R (2 ^ p)).Idx → α) (q : Fin 128) (i : Fin (2 ^ p)) :
    col (turn p s h X) q i = col X q (partner p s i) := by
  rcases clear_or_partner h i with hi | ⟨i₀, hi, rfl⟩
  · obtain ⟨a, k, e, e'⟩ := groups h i hi
    exact turn_lo h X i _ q a k e e'
  · obtain ⟨a, k, e, e'⟩ := groups h i₀ hi
    rw [partner_partner h]
    exact turn_hi h X i₀ _ q a k e e'

/-- `rows` reads a column at the positions with the low `l` bits flipped. -/
theorem col_rows {p : ℕ} (X : (R (2 ^ p)).Idx → α) (q : Fin 128) : ∀ (l : ℕ) (h : l ≤ p) (i : Fin (2 ^ p)),
    col (rows p l h X) q i = col X q (xpos p (2 ^ l - 1) i)
  | 0, h, i => congrArg (col X q) (Fin.ext (by
      rw [xpos_val (mask_lt h), Nat.pow_zero, Nat.sub_self, Nat.xor_zero]))
  | l + 1, h, i => by
    show col (turn p l h (rows p l _ X)) q i = _
    rw [col_turn, col_rows X q l]
    refine congrArg (col X q) (Fin.ext ?_)
    rw [xpos_val (mask_lt (Nat.le_of_succ_le h)), xpos_val (mask_lt h), partner_val h, flip_flip]

/-- Where row `i` comes from when the second of each two runs of `2 ^ l` rows is reversed. -/
def fold (p l : ℕ) (i : Fin (2 ^ p)) : Fin (2 ^ p) := if i.val &&& 2 ^ l = 0 then i else xpos p (2 ^ l - 1) i

/-- Reversing twice is nothing. -/
theorem fold_involutive {p l : ℕ} (h : l ≤ p) : Function.Involutive (fold p l) := by
  intro i
  by_cases hi : i.val &&& 2 ^ l = 0
  · simp only [fold, if_pos hi]
  · have hx : (xpos p (2 ^ l - 1) i).val &&& 2 ^ l ≠ 0 := by
      rw [ne_eq, and_two_pow_eq_zero_iff_testBit, xpos_val (mask_lt h), Nat.testBit_xor, Nat.testBit_two_pow_sub_one]
      rw [and_two_pow_eq_zero_iff_testBit] at hi
      simpa using hi
    simp only [fold, if_neg hi, if_neg hx]
    apply Fin.ext
    rw [xpos_val (mask_lt h), xpos_val (mask_lt h), Nat.xor_assoc, Nat.xor_self, Nat.xor_zero]

/-- `run` reads a column by `fold`. -/
theorem col_run {p l : ℕ} (h : l ≤ p) (X : (R (2 ^ (p + 1))).Idx → α) (q : Fin 128) (i : Fin (2 ^ (p + 1))) :
    col (run p l h X) q i = col X q (fold (p + 1) l i) := by
  unfold fold
  by_cases hi : i.val &&& 2 ^ l = 0
  · rw [if_pos hi]
    obtain ⟨a, k, e, -⟩ := groups (Nat.lt_succ_of_le h) i hi
    exact run_lo h X i q a k e
  · rw [if_neg hi]
    obtain hi' | ⟨i₀, hi₀, rfl⟩ := clear_or_partner (Nat.lt_succ_of_le h) i
    · exact absurd hi' hi
    · obtain ⟨a, k, -, e⟩ := groups (Nat.lt_succ_of_le h) i₀ hi₀
      have ha : a.val * 2 + 1 < 2 ^ (p + 1 - l) := by
        have ha : a.val < 2 ^ (p - l) := a.isLt
        rw [show p + 1 - l = (p - l) + 1 by omega, Nat.pow_succ]; omega
      have hc : partner (p + 1) l i₀ = chunkPos (Nat.le_succ_of_le h) ⟨a.val * 2 + 1, ha⟩ k := Fin.ext e
      refine run_hi h X _ _ q a k k.rev e ?_ (chunkPos h a k) (chunkPos h a k.rev) rfl rfl fun Y => ?_
      · rw [hc, xpos_ones_chunkPos]; rfl
      · have := col_rows Y q l h (chunkPos h a k)
        rwa [xpos_ones_chunkPos] at this

end layout

/-! ## Comparing -/

/-- A comparing pass on a column is a stage of a network. -/
theorem col_way {p s : ℕ} (h : s < p) (d : BitVec 1) (X : FVec Ideal (R (2 ^ p)) .bf16) (q : Fin 128) :
    col (way p s h d X) q = Network.apply (α := EReal) (stage p s fun _ => !decide (d = 1)) (col X q) := by
  funext i
  rcases clear_or_partner h i with hi | ⟨i₀, hi, rfl⟩
  · obtain ⟨a, k, e, e'⟩ := groups h i hi
    rw [(apply_stage h _ _ i hi).1]
    refine (way_lo h d X i _ q a k e e').trans ?_
    by_cases hd : d = 1 <;> simp only [hd] <;> rfl
  · obtain ⟨a, k, e, e'⟩ := groups h i₀ hi
    rw [(apply_stage h _ _ i₀ hi).2]
    refine (way_hi h d X i₀ _ q a k e e').trans ?_
    by_cases hd : d = 1 <;> simp only [hd] <;> rfl

/-- The merge in direction `d` of runs of `2 ^ n`. -/
def net (p n : ℕ) (d : BitVec 1) : Network (2 ^ p) := (List.range n).reverse.flatMap fun s => stage p s fun _ => !decide (d = 1)

theorem net_succ (p n : ℕ) (d : BitVec 1) : net p (n + 1) d = stage p n (fun _ => !decide (d = 1)) ++ net p n d := by
  unfold net
  rw [List.range_succ, List.reverse_append, List.reverse_singleton, List.singleton_append, List.flatMap_cons]

/-- The passes in direction `d` on a column. -/
theorem col_ways {p : ℕ} (d : BitVec 1) (q : Fin 128) : ∀ (n : ℕ) (h : n ≤ p) (X : FVec Ideal (R (2 ^ p)) .bf16),
    col (ways p d n h X) q = Network.apply (α := EReal) (net p n d) (col X q)
  | 0, _, _ => rfl
  | n + 1, h, X => by
    rw [net_succ, Network.apply_append, ← col_way h]
    exact col_ways d q n _ _

/-- The rising passes are the passes in direction one. -/
theorem ups_eq {F : FTy → Type} [FloatOps F] {p : ℕ} : ∀ (n : ℕ) (h : n ≤ p) (X : FVec F (R (2 ^ p)) .bf16),
    ups p n h X = ways p 1 n h X
  | 0, _, _ => rfl
  | n + 1, h, X => by
    show ups p n _ (up p n h X) = ways p 1 n _ (way p n h 1 X)
    rw [up_eq, ups_eq n]

end Cert.Passes
-- ==== Proof.Sorting.lean ====
/-
# `Sorting`: why the passes sort

A level of a device's own sort takes runs of `2 ^ t` rising rows to runs of `2 ^ (t + 1)`: the reversed second run makes
every pair rise then fall, and the merge of such a pair rises. A level of the sort over all devices takes runs that rise
and fall in turn to such runs of twice the length.
-/
module

public import proofs.«01_k».proof.Proof.Columns
public import Mathlib.Data.List.OfFn
public import Mathlib.Data.List.FinRange

@[expose] public section

namespace Cert.Passes

open Idealize.ShloMosaic Idealize.ShloMosaic.SortNet

section order
variable {α : Type*} [LinearOrder α]

/-- A vector whose first half rises and whose second half falls. -/
theorem descAsc_of_halves {n : ℕ} (v : Fin (2 ^ (n + 1)) → α) (h : Monotone fun k => v (lowerPos n k))
    (h' : Antitone fun k => v (upperPos n k)) : DescAsc v := by
  refine ⟨2 ^ n, Or.inr ⟨fun i j hij hj => ?_, fun i j hij hi => ?_⟩⟩
  · have hi : i.val < 2 ^ n := lt_of_le_of_lt (show i.val ≤ j.val from hij) hj
    have hk := h (show (⟨i.val, hi⟩ : Fin (2 ^ n)) ≤ ⟨j.val, hj⟩ from hij)
    rw [eq_lowerPos i hi, eq_lowerPos j hj]
    exact hk
  · have hj : ¬j.val < 2 ^ n := Nat.not_lt.mpr (le_trans hi (show i.val ≤ j.val from hij))
    rw [eq_upperPos i (Nat.not_lt.mpr hi), eq_upperPos j hj]
    exact h' (show i.val - 2 ^ n ≤ j.val - 2 ^ n from Nat.sub_le_sub_right hij _)

/-- Runs of `2 ^ l` positions that rise and fall in turn, the first rising. -/
def Turns {p : ℕ} (l : ℕ) (h : l ≤ p) (v : Fin (2 ^ p) → α) : Prop :=
  ∀ c : Fin (2 ^ (p - l)), (c.val % 2 = 0 → Monotone fun k => v (chunkPos h c k)) ∧
    (c.val % 2 = 1 → Antitone fun k => v (chunkPos h c k))

/-- A level of the sort doubles the runs. -/
theorem Turns.level {p l : ℕ} (h : l + 1 ≤ p) {v : Fin (2 ^ p) → α} (hv : Turns l (Nat.le_of_succ_le h) v) :
    Turns (l + 1) h (Network.apply (levelNet p false l) v) := by
  intro c
  have hd : DescAsc fun k => v (chunkPos h c k) := by
    refine descAsc_of_halves _ ?_ ?_
    · simp only [← chunkPos_two_mul h]
      exact (hv _).1 (Nat.mul_mod_right 2 _)
    · simp only [← chunkPos_two_mul_add_one h]
      exact (hv _).2 (by show (2 * c.val + 1) % 2 = 1; omega)
  refine ⟨fun hc => ?_, fun hc => ?_⟩
  · have e : (fun k => Network.apply (levelNet p false l) v (chunkPos h c k)) =
        Network.apply (mergeAscNet (l + 1)) fun k => v (chunkPos h c k) := by
      funext k
      rw [apply_levelNet_chunkPos, decide_eq_true hc]
      exact if_neg (by decide)
    rw [e]
    exact mergeAscNet_apply_monotone _ _ hd
  · have e : (fun k => Network.apply (levelNet p false l) v (chunkPos h c k)) =
        Network.apply (mergeDescNet (l + 1)) fun k => v (chunkPos h c k) := by
      funext k
      rw [apply_levelNet_chunkPos, decide_eq_false (by omega)]
      exact if_pos (by decide)
    rw [e]
    exact mergeDescNet_apply_antitone _ _ hd

/-- One run over all positions rises. -/
theorem Turns.monotone {p : ℕ} {v : Fin (2 ^ p) → α} (hv : Turns p le_rfl v) : Monotone v := by
  have h := (hv ⟨0, Nat.two_pow_pos _⟩).1 rfl
  simpa only [chunkPos_self] using h

/-- Two rising rearrangements of a vector are equal. -/
theorem sorted_unique {n : ℕ} (v : Fin n → α) (σ τ : Equiv.Perm (Fin n)) (hσ : Monotone (v ∘ σ)) (hτ : Monotone (v ∘ τ)) :
    v ∘ σ = v ∘ τ := by
  have hp : (List.ofFn (v ∘ σ)).Perm (List.ofFn (v ∘ τ)) := (σ.ofFn_comp_perm v).trans (τ.ofFn_comp_perm v).symm
  have key : ∀ ρ : Equiv.Perm (Fin n), Monotone (v ∘ ρ) → (List.ofFn (v ∘ ρ)).Pairwise (· ≤ ·) := fun ρ h =>
    List.pairwise_ofFn.mpr fun _ _ hij => h hij.le
  exact List.ofFn_injective (List.Perm.eq_of_pairwise (le := fun a b => a ≤ b) (fun _ _ _ _ => le_antisymm) (key σ hσ) (key τ hτ) hp)

end order

/-! ## A device's own sort -/

/-- A run with an even number is kept. -/
theorem fold_even {p l : ℕ} (h : l ≤ p) (c : Fin (2 ^ (p - l))) (hc : c.val % 2 = 0) (k : Fin (2 ^ l)) :
    fold p l (chunkPos h c k) = chunkPos h c k := if_pos ((chunkPos_and_width h c k).mpr hc)

/-- A run with an odd number is reversed. -/
theorem fold_odd {p l : ℕ} (h : l ≤ p) (c : Fin (2 ^ (p - l))) (hc : c.val % 2 = 1) (k : Fin (2 ^ l)) :
    fold p l (chunkPos h c k) = chunkPos h c k.rev := by
  rw [fold, if_neg (fun e => by have := (chunkPos_and_width h c k).mp e; omega), xpos_ones_chunkPos]

/-- After `t` levels every run of `2 ^ t` rows rises, in every column. -/
theorem sortUp_runs {p : ℕ} (X : FVec Ideal (R (2 ^ (p + 1))) .bf16) (q : Fin 128) : ∀ (t : ℕ) (h : t ≤ p + 1)
    (c : Fin (2 ^ (p + 1 - t))), Monotone (β := EReal) fun k : Fin (2 ^ t) => col (sortUp p t h X) q (chunkPos h c k)
  | 0, _, _ => fun i j _ => le_of_eq (by
      have h1 : i.val < 1 := i.isLt
      have h2 : j.val < 1 := j.isLt
      rw [show i = j from Fin.ext (by omega)])
  | t + 1, h, c => by
    have ht := Nat.le_of_succ_le h
    have hp : t ≤ p := Nat.le_of_succ_le_succ h
    have hd : DescAsc (α := EReal) fun k : Fin (2 ^ (t + 1)) => col (run p t hp (sortUp p t ht X)) q (chunkPos h c k) := by
      refine descAsc_of_halves _ ?_ ?_
      · simp only [col_run, ← chunkPos_two_mul h]
        rw [funext fun k => congrArg (col (sortUp p t ht X) q) (fold_even ht _ (Nat.mul_mod_right 2 c.val) k)]
        exact sortUp_runs X q t ht _
      · have hc : (2 * c.val + 1) % 2 = 1 := by omega
        simp only [col_run, ← chunkPos_two_mul_add_one h]
        rw [funext fun k => congrArg (col (sortUp p t ht X) q) (fold_odd ht _ hc k)]
        exact fun i j hij => sortUp_runs X q t ht _ (Fin.rev_le_rev.mpr hij)
    have e : (fun k : Fin (2 ^ (t + 1)) => (col (sortUp p (t + 1) h X) q (chunkPos h c k) : EReal)) =
        Network.apply (mergeAscNet (t + 1)) fun k => col (run p t hp (sortUp p t ht X)) q (chunkPos h c k) := by
      funext k
      show col (ups (p + 1) (t + 1) h (run p t hp (sortUp p t ht X))) q _ = _
      rw [ups_eq, col_ways]
      exact apply_flatMap_stage_chunk h _ (fun s hs => List.mem_range.mp (List.mem_reverse.mp hs)) _ (fun _ => false)
        (fun _ _ => rfl) _ c k
    rw [e]
    exact mergeAscNet_apply_monotone _ _ hd

/-- The whole sort leaves every column rising. -/
theorem sortUp_monotone {p : ℕ} (X : FVec Ideal (R (2 ^ (p + 1))) .bf16) (q : Fin 128) :
    Monotone (β := EReal) (col (sortUp p (p + 1) le_rfl X) q) := by
  have h := sortUp_runs X q (p + 1) le_rfl ⟨0, Nat.two_pow_pos _⟩
  simpa only [chunkPos_self] using h

/-- Every level rearranges a column. -/
theorem sortUp_perm {p : ℕ} (X : FVec Ideal (R (2 ^ (p + 1))) .bf16) (q : Fin 128) : ∀ (t : ℕ) (h : t ≤ p + 1),
    ∃ σ : Equiv.Perm (Fin (2 ^ (p + 1))), (col (sortUp p t h X) q : Fin (2 ^ (p + 1)) → EReal) = col X q ∘ σ
  | 0, _ => ⟨Equiv.refl _, rfl⟩
  | t + 1, h => by
    have ht := Nat.le_of_succ_le h
    obtain ⟨σ, hσ⟩ := sortUp_perm X q t ht
    obtain ⟨τ, hτ⟩ := Network.exists_perm (α := EReal) (net (p + 1) (t + 1) 1)
      (col (run p t (Nat.le_of_succ_le_succ h) (sortUp p t ht X)) q)
    refine ⟨(τ.trans (fold_involutive ht).toPerm).trans σ, ?_⟩
    show col (ups (p + 1) (t + 1) h (run p t _ (sortUp p t ht X))) q = _
    rw [ups_eq, col_ways, hτ]
    funext i
    show col (run p t _ (sortUp p t ht X)) q (τ i) = _
    rw [col_run, hσ]
    rfl

end Cert.Passes
-- ==== Proof.Global.lean ====
/-
# `Global`: one column over all devices

One column of a panel, read over all sixteen devices in order, has `2 ^ 15` places: place `2048 c + k` is row `k` of
device `c`. An exchange between devices is one stage of a sorting network on these places, the local merge is the stages
within the devices' runs, and the ten exchanges are the last four levels of the sort.
-/
module

public import proofs.«01_k».proof.Proof.Chain
public import proofs.«01_k».proof.Proof.Sorting
public import Mathlib.Logic.Equiv.Fin.Basic

@[expose] public section

noncomputable section

namespace Cert.Mesh

open Cert.KernelIdeal Cert.KernelIdeal.Gen Cert.Passes
open Idealize.ShloMosaic Idealize.SL.Sem Idealize.ShloMosaic.SortNet

/-! ## Rows of every device after each exchange -/

/-- A vector cast to another shape and back is the vector. -/
theorem cast_cast {α : Type} {s t : Shape} (X : s.Idx → α) (h : s.ShapeCasts t) (h' : t.ShapeCasts s) :
    shapeCast s (shapeCast t X h) h' = X := by
  funext y
  unfold shapeCast
  rw [Shape.reshapeEquiv_reshapeEquiv, Shape.reshapeEquiv_self]

/-- Device `c`'s rows of a panel after `n` exchanges. -/
def V (x : Dev nD → Rows Ideal) (n : ℕ) (c : Dev nD) : Rows Ideal := shapeCast S2048x128 (W (F := Ideal) x n c) shapeCasts_S1x2048x128_S2048x128

/-- What exchange `n` leaves on device `c`, before a merge: the smaller or the larger of the two devices' keys. -/
def E (x : Dev nD → Rows Ideal) (n : ℕ) (c : Dev nD) : Rows Ideal :=
  Scalar.select (keep c n) (minimumf (V x n c) (V x n (peer c n))) (maximumf (V x n c) (V x n (peer c n)))

theorem V_zero (x : Dev nD → Rows Ideal) (c : Dev nD) :
    V x 0 c = Scalar.select (odd c) (rev (sortUp 10 11 le_rfl (x c))) (sortUp 10 11 le_rfl (x c)) := by
  show shapeCast S2048x128 (presort (F := Ideal) c (x c)) _ = _
  rw [presort_eq, cast_cast]
  have e : shapeCast S2048x128 (x c) shapeCasts_S2048x128_S2048x128 = x c :=
    funext fun y => congrArg (x c) (Shape.reshapeEquiv_self _ _)
  rw [e]

theorem comb_eq (x : Dev nD → Rows Ideal) (n : ℕ) (c : Dev nD) :
    comb (F := Ideal) (keep c n) (W x n c) (W x n (peer c n)) = shapeCast S1x2048x128 (E x n c) shapeCasts_S2048x128_S1x2048x128 := by
  unfold comb k0_pay56 lift
  dsimp only
  rw [cast_cast]
  rfl

/-- After an exchange that does not end a run. -/
theorem V_exchange (x : Dev nD → Rows Ideal) {n : ℕ} (h : bOf n ≠ 0) (c : Dev nD) : V x (n + 1) c = E x n c := by
  rw [V, W, finish, if_neg h, comb_eq, cast_cast]

/-- After an exchange that ends a run: the local merge of what it leaves. -/
theorem V_merge (x : Dev nD → Rows Ideal) {n : ℕ} (h : bOf n = 0) (c : Dev nD) :
    V x (n + 1) c = ways 11 (asc c n) 11 le_rfl (E x n c) := by
  rw [V, W, finish, if_pos h, comb_eq, merge_eq, cast_cast, cast_cast]

/-! ## The places over all devices -/

theorem wide : 11 ≤ 15 := by decide

/-- Row `k` of device `c`. -/
abbrev pos (c : Dev nD) (k : Fin (2 ^ 11)) : Fin (2 ^ 15) := chunkPos (P := 15) (p := 11) wide c k

/-- The places are the devices' rows. -/
def spots : Dev nD × Fin (2 ^ 11) ≃ Fin (2 ^ 15) := finProdFinEquiv (m := 16) (n := 2 ^ 11)

theorem spots_eq (c : Dev nD) (k : Fin (2 ^ 11)) : spots (c, k) = pos c k :=
  Fin.ext (by
    show k.val + 2 ^ 11 * c.val = c.val * 2 ^ 11 + k.val
    rw [Nat.add_comm, Nat.mul_comm])

/-- One column over all devices. -/
def whole (X : Dev nD → Rows Ideal) (q : Fin 128) (i : Fin (2 ^ 15)) : EReal := col (X (spots.symm i).1) q (spots.symm i).2

theorem whole_pos (X : Dev nD → Rows Ideal) (q : Fin 128) (c : Dev nD) (k : Fin (2 ^ 11)) : whole X q (pos c k) = col (X c) q k := by
  unfold whole
  rw [← spots_eq, Equiv.symm_apply_apply]

/-- Two vectors over the places are equal if they are on every device's rows. -/
theorem ext_pos {v v' : Fin (2 ^ 15) → EReal} (h : ∀ c k, v (pos c k) = v' (pos c k)) : v = v' := by
  funext i
  have := h (spots.symm i).1 (spots.symm i).2
  rwa [← spots_eq, Prod.mk.eta, Equiv.apply_symm_apply] at this

/-! ## The exchanges -/

/-- The direction in which a run of the network is merged: at places with bit `d` set the greater keys go first. -/
def falls (d : ℕ) (i : Fin (2 ^ 15)) : Bool := decide (i.val &&& 2 ^ d = 0) == false

theorem falls_pos (d : ℕ) (c : Dev nD) (k : Fin (2 ^ 11)) : falls (11 + d) (pos c k) = !decide (c.val &&& 2 ^ d = 0) := by
  unfold falls
  have h := chunkPos_high_clear_iff (P := 15) (p := 11) wide (Nat.le_add_right 11 d) c k
  rw [Nat.add_sub_cancel_left] at h
  rw [decide_eq_decide.mpr h]
  cases decide (c.val &&& 2 ^ d = 0) <;> rfl

theorem keep_low : ∀ (c : Dev nD) (e : Fin 10), c.val &&& 2 ^ (bOf e.val).val = 0 →
    keep c e.val = if (!decide (c.val &&& 2 ^ dOf e.val = 0)) = true then 0#1 else 1#1 := by decide +kernel
theorem keep_high : ∀ (c : Dev nD) (e : Fin 10), c.val &&& 2 ^ (bOf e.val).val = 0 →
    keep (peer c e.val) e.val = if (!decide (c.val &&& 2 ^ dOf e.val = 0)) = true then 1#1 else 0#1 := by decide +kernel
theorem asc_bit : ∀ (c : Dev nD) (e : Fin 10), (!decide (asc c e.val = 1)) = !decide (c.val &&& 2 ^ dOf e.val = 0) := by decide +kernel
theorem peer_partner : ∀ (b : Fin 4) (c : Dev nD), flip b c = partner 4 b.val c := by decide +kernel
theorem clear_or_peer : ∀ (c : Dev nD) (e : Fin 10), c.val &&& 2 ^ (bOf e.val).val = 0 ∨
    (peer c e.val).val &&& 2 ^ (bOf e.val).val = 0 := by decide +kernel

theorem partner_pos (b : Fin 4) (c : Dev nD) (k : Fin (2 ^ 11)) : partner 15 (11 + b.val) (pos c k) = pos (flip b c) k := by
  have h := partner_chunkPos_high (P := 15) (p := 11) wide (Nat.le_add_right 11 b.val) (by have := b.isLt; omega) c k
  rw [h, peer_partner]
  have e : 11 + b.val - 11 = b.val := Nat.add_sub_cancel_left _ _
  rw [e]

/-- An exchange is one stage of the network. -/
theorem whole_exchange (x : Dev nD → Rows Ideal) (q : Fin 128) (e : Fin 10) :
    whole (E x e.val) q = Network.apply (stage 15 (11 + (bOf e.val).val) (falls (11 + dOf e.val))) (whole (V x e.val) q) := by
  have hs : 11 + (bOf e.val).val < 15 := by have := (bOf e.val).isLt; omega
  have key : ∀ (c : Dev nD) (k : Fin (2 ^ 11)), c.val &&& 2 ^ (bOf e.val).val = 0 →
      whole (E x e.val) q (pos c k) = Network.apply (stage 15 (11 + (bOf e.val).val) (falls (11 + dOf e.val))) (whole (V x e.val) q) (pos c k) ∧
      whole (E x e.val) q (pos (peer c e.val) k) =
        Network.apply (stage 15 (11 + (bOf e.val).val) (falls (11 + dOf e.val))) (whole (V x e.val) q) (pos (peer c e.val) k) := by
    intro c k hc
    have hp : (pos c k).val &&& 2 ^ (11 + (bOf e.val).val) = 0 := by
      refine (chunkPos_high_clear_iff (P := 15) (p := 11) wide (Nat.le_add_right 11 _) c k).mpr ?_
      rwa [Nat.add_sub_cancel_left]
    have h := apply_stage hs (falls (11 + dOf e.val)) (whole (V x e.val) q) (pos c k) hp
    rw [partner_pos, falls_pos, whole_pos, whole_pos] at h
    change _ ∧ Network.apply _ _ (pos (peer c e.val) k) = _ at h
    rw [h.1, h.2, whole_pos, whole_pos]
    unfold E
    rw [keep_low c e hc, keep_high c e hc, peer_peer]
    constructor
    · cases (!decide (c.val &&& 2 ^ dOf e.val = 0)) <;> rfl
    · cases (!decide (c.val &&& 2 ^ dOf e.val = 0))
      · exact max_comm _ _
      · exact min_comm _ _
  refine ext_pos fun c k => ?_
  rcases clear_or_peer c e with hc | hc
  · exact (key c k hc).1
  · have := (key (peer c e.val) k hc).2
    rwa [peer_peer] at this

/-- The stages at distances `2 ^ (n - 1), …, 1`, all in the direction `w`. -/
def stages (n : ℕ) (w : Fin (2 ^ 15) → Bool) : Network (2 ^ 15) := (List.range n).reverse.flatMap fun s => stage 15 s w

theorem stages_succ (n : ℕ) (w : Fin (2 ^ 15) → Bool) : stages (n + 1) w = stage 15 n w ++ stages n w := by
  unfold stages
  rw [List.range_succ, List.reverse_append, List.reverse_singleton, List.singleton_append, List.flatMap_cons]

/-- The local merge is the stages within the devices' runs. -/
theorem whole_merge (X : Dev nD → Rows Ideal) (q : Fin 128) (e : Fin 10) :
    whole (fun c => ways 11 (asc c e.val) 11 le_rfl (X c)) q = Network.apply (stages 11 (falls (11 + dOf e.val))) (whole X q) := by
  refine ext_pos fun c k => ?_
  rw [whole_pos, col_ways]
  unfold stages net
  rw [asc_bit]
  refine Eq.symm ((apply_flatMap_stage_chunkPos (P := 15) (p := 11) wide (List.range 11).reverse
    (fun s hs => List.mem_range.mp (List.mem_reverse.mp hs)) _ _ c k).trans ?_)
  rw [show (fun j => falls (11 + dOf e.val) (chunkPos (P := 15) (p := 11) wide c j)) = fun _ => !decide (c.val &&& 2 ^ dOf e.val = 0) from
    funext fun j => falls_pos _ c j]
  rw [show (fun j => whole X q (chunkPos (P := 15) (p := 11) wide c j)) = col (X c) q from funext fun j => whole_pos X q c j]

/-- An exchange within a run. -/
theorem whole_step (x : Dev nD → Rows Ideal) (q : Fin 128) (e : Fin 10) (h : bOf e.val ≠ 0) :
    whole (V x (e.val + 1)) q = Network.apply (stage 15 (11 + (bOf e.val).val) (falls (11 + dOf e.val))) (whole (V x e.val) q) := by
  rw [← whole_exchange, funext (V_exchange x h)]

/-- The exchange that ends a run, with its local merge. -/
theorem whole_last (x : Dev nD → Rows Ideal) (q : Fin 128) (e : Fin 10) (h : bOf e.val = 0) :
    whole (V x (e.val + 1)) q = Network.apply (stages 12 (falls (11 + dOf e.val))) (whole (V x e.val) q) := by
  have h' := whole_exchange x q e
  rw [h] at h'
  rw [funext (V_merge x h), whole_merge, h', stages_succ 11, Network.apply_append]
  rfl

/-- The ten exchanges are the last four levels of the sort. -/
theorem whole_levels (x : Dev nD → Rows Ideal) (q : Fin 128) : whole (V x 10) q =
    Network.apply (levelNet 15 false 14) (Network.apply (levelNet 15 false 13)
      (Network.apply (levelNet 15 false 12) (Network.apply (levelNet 15 false 11) (whole (V x 0) q)))) := by
  have l11 : levelNet 15 false 11 = stages 12 (falls 12) := rfl
  have l12 : levelNet 15 false 12 = stages 13 (falls 13) := rfl
  have l13 : levelNet 15 false 13 = stages 14 (falls 14) := rfl
  have l14 : levelNet 15 false 14 = stages 15 (falls 15) := rfl
  rw [l11, l12, l13, l14, stages_succ 14, stages_succ 13, stages_succ 13, stages_succ 12, stages_succ 12, stages_succ 12]
  simp only [Network.apply_append]
  refine (whole_last x q 9 rfl).trans (congrArg _ ?_)
  refine (whole_step x q 8 (by decide)).trans (congrArg _ ?_)
  refine (whole_step x q 7 (by decide)).trans (congrArg _ ?_)
  refine (whole_step x q 6 (by decide)).trans (congrArg _ ?_)
  refine (whole_last x q 5 rfl).trans (congrArg _ ?_)
  refine (whole_step x q 4 (by decide)).trans (congrArg _ ?_)
  refine (whole_step x q 3 (by decide)).trans (congrArg _ ?_)
  refine (whole_last x q 2 rfl).trans (congrArg _ ?_)
  refine (whole_step x q 1 (by decide)).trans (congrArg _ ?_)
  exact whole_last x q 0 rfl

/-! ## The devices' own sorts -/

theorem odd_eq : ∀ c : Dev nD, odd c = if c.val % 2 = 0 then 0#1 else 1#1 := by decide +kernel

/-- The full reversal reads a column backwards. -/
theorem col_rev (X : Rows Ideal) (q : Fin 128) (i : Fin (2 ^ 11)) : col (rev X) q i = col X q i.rev := by
  rw [col_rows]
  refine congrArg (col X q) ?_
  have h := xpos_ones_chunkPos (P := 11) (k := 11) le_rfl ⟨0, Nat.two_pow_pos _⟩ i
  rwa [chunkPos_self, chunkPos_self] at h

/-- A rising column, reversed, falls. -/
theorem rev_antitone {X : Rows Ideal} {q : Fin 128} (h : Monotone (β := EReal) (col X q)) : Antitone (β := EReal) (col (rev X) q) := by
  intro i j hij
  have hk := h (Fin.rev_le_rev.mpr hij)
  exact (le_of_eq (col_rev X q j)).trans (hk.trans (le_of_eq (col_rev X q i).symm))

/-- Before the exchanges the devices' columns rise and fall in turn. -/
theorem whole_turns (x : Dev nD → Rows Ideal) (q : Fin 128) : Turns (p := 15) 11 wide (whole (V x 0) q) := by
  intro c
  have e : (fun k => whole (V x 0) q (chunkPos (P := 15) (p := 11) wide c k)) = col (V x 0 c) q := funext fun k => whole_pos _ q c k
  rw [e, V_zero, odd_eq]
  refine ⟨fun h => ?_, fun h => ?_⟩
  · rw [if_pos h]
    exact sortUp_monotone (x c) q
  · rw [if_neg (by omega)]
    exact rev_antitone (sortUp_monotone (x c) q)

/-- A device's own sort rearranges each column. -/
theorem V_perm (x : Dev nD → Rows Ideal) (q : Fin 128) (c : Dev nD) :
    ∃ σ : Equiv.Perm (Fin (2 ^ 11)), (col (V x 0 c) q : Fin (2 ^ 11) → EReal) = col (x c) q ∘ σ := by
  obtain ⟨σ, hσ⟩ := sortUp_perm (p := 10) (x c) q 11 le_rfl
  rw [V_zero, odd_eq]
  by_cases h : c.val % 2 = 0
  · rw [if_pos h]
    exact ⟨σ, hσ⟩
  · rw [if_neg h]
    refine ⟨Fin.revPerm.trans σ, funext fun i => ?_⟩
    refine (col_rev _ q i).trans ?_
    rw [hσ]
    rfl

/-- So the devices' own sorts rearrange the column over all devices. -/
theorem whole_perm (x : Dev nD → Rows Ideal) (q : Fin 128) : ∃ σ : Equiv.Perm (Fin (2 ^ 15)), whole (V x 0) q = whole x q ∘ σ := by
  choose σ hσ using V_perm x q
  refine ⟨spots.symm.trans ((Equiv.prodCongrRight σ).trans spots), ext_pos fun c k => ?_⟩
  rw [whole_pos, hσ, Function.comp_apply, ← spots_eq]
  show _ = whole x q (spots ((Equiv.prodCongrRight σ) (spots.symm (spots (c, k)))))
  rw [Equiv.symm_apply_apply]
  show _ = whole x q (spots (c, σ c k))
  rw [spots_eq, whole_pos]

/-- After the ten exchanges every column rises over all devices and is a rearrangement of what it was. -/
theorem whole_sorted (x : Dev nD → Rows Ideal) (q : Fin 128) :
    Monotone (whole (V x 10) q) ∧ ∃ σ : Equiv.Perm (Fin (2 ^ 15)), whole (V x 10) q = whole x q ∘ σ := by
  rw [whole_levels]
  refine ⟨(((((whole_turns x q).level (l := 11) (by decide)).level (l := 12) (by decide)).level (l := 13) (by decide)).level (l := 14) (by decide)).monotone, ?_⟩
  obtain ⟨σ, hσ⟩ := whole_perm x q
  rw [hσ]
  simp only [← Network.apply_append]
  obtain ⟨τ, hτ⟩ := Network.exists_perm (α := EReal) (levelNet 15 false 11 ++ (levelNet 15 false 12 ++ (levelNet 15 false 13 ++ levelNet 15 false 14))) (whole x q ∘ σ)
  refine ⟨τ.trans σ, ?_⟩
  rw [show (whole x q ∘ (τ.trans σ)) = (whole x q ∘ σ) ∘ τ from rfl, ← hτ]
  simp only [Network.apply_append]

end Cert.Mesh

end
-- ==== Proof.Reference.lean ====
/-
# `Reference`: a column of the sorted array

The reference sorts every column of the whole array. A column of what it leaves rises and is a rearrangement of the same
column of its operand.
-/
module

public import proofs.«01_k».proof.Proof.Gen.ReferenceIdeal
public import Idealize.ShloMosaic.PureOps.Ideal
public import Idealize.ShloMosaic.Lib.SortFacts
public import Idealize.ShloMosaic.Lib.Pointwise.Index
public import Mathlib.Logic.Equiv.Defs
public import Mathlib.Order.Monotone.Defs

@[expose] public section

noncomputable section

namespace Cert.Mesh

open Idealize.ShloMosaic

/-- Column `q` of an array of two axes. -/
def column {n k : ℕ} (x : (⟨2, ![n, k]⟩ : Shape).Idx → EReal) (q : Fin k) (i : Fin n) : EReal := x (ix2 i q)

/-- Replacing the row of an element of column `q`. -/
theorem along_ix2 {n k : ℕ} (i i' : Fin n) (q : Fin k) :
    (ix2 i q : (⟨2, ![n, k]⟩ : Shape).Idx).along (0 : Fin 2) i' = ix2 i' q := by
  funext a
  match a with
  | 0 => rfl
  | 1 => rfl

/-- Sorting the columns by a comparator that is `<` leaves every column rising, and a rearrangement of what it was. -/
theorem sort_column {n k : ℕ} (lt : EReal → EReal → BitVec 1) (hlt : ∀ a b, lt a b = BitVec.ofBool (decide (a < b)))
    (x : (⟨2, ![n, k]⟩ : Shape).Idx → EReal) (q : Fin k) :
    Monotone (column (Host.sort ⟨2, ![n, k]⟩ 0 lt x) q)
      ∧ ∃ σ : Equiv.Perm (Fin n), column (Host.sort ⟨2, ![n, k]⟩ 0 lt x) q = column x q ∘ σ := by
  let R : Fin n → Fin n → Bool := fun a b => decide (column x q a < column x q b)
  have hR : ∀ i : Fin n, column (Host.sort ⟨2, ![n, k]⟩ 0 lt x) q i = column x q (sortedFrom R i) := fun i => by
    unfold column Host.sort
    rw [dif_pos (show 0 < (⟨2, ![n, k]⟩ : Shape).rank from Nat.zero_lt_two)]
    refine (congrArg x (along_ix2 i _ q)).trans ?_
    refine congrArg (fun S : Fin n → Fin n → Bool => x (ix2 (sortedFrom S i) q)) (funext fun a => funext fun b => ?_)
    refine (congrArg₂ (fun s t => lt (x s) (x t) == 1#1) (along_ix2 i a q) (along_ix2 i b q)).trans ?_
    show (lt (column x q a) (column x q b) == 1#1) = decide (column x q a < column x q b)
    rw [hlt]
    cases decide (column x q a < column x q b) <;> rfl
  have hno : ∀ i j : Fin n, i < j → R (sortedFrom R j) (sortedFrom R i) = false :=
    sortedFrom_noInversion R R (fun a b h => decide_eq_false (lt_asymm (of_decide_eq_true h))) (fun _ _ h => h)
      (fun a b c h h' => decide_eq_false (not_lt.mpr ((not_lt.mp (of_decide_eq_false h')).trans (not_lt.mp (of_decide_eq_false h)))))
  refine ⟨fun i j hij => ?_, Equiv.ofBijective (sortedFrom R) ⟨sortedFrom_injective R, sortedFrom_surjective R⟩, funext hR⟩
  rcases hij.eq_or_lt with rfl | h
  · exact le_rfl
  · rw [hR, hR]
    exact not_lt.mp (of_decide_eq_false (hno i j h))

/-- The reference's comparator is `<`. It first replaces each zero, and each value unequal to itself, by one fixed value; on the
extended reals that changes nothing. -/
theorem comparator_lt [Cert.ReferenceIdeal.Facts₀] (a b : EReal) :
    Cert.ReferenceIdeal.comparator_f32_d0 (F := Ideal) a b = BitVec.ofBool (decide (a < b)) := by
  have zero : ∀ z c : EReal, Scalar.select (Ideal.cmp .oeq c z) z c = c := fun z c => by
    by_cases h : c = z
    · subst h; exact ite_self _
    · unfold Ideal.cmp; rw [decide_eq_false h]; rfl
  have number : ∀ z c e : EReal, Scalar.select (Ideal.cmp .une c c) z e = e := fun z c e => by
    unfold Ideal.cmp
    simp [Scalar.select]
  refine (congrArg₂ (Ideal.cmp .olt) ((number _ a _).trans (zero _ a)) ((number _ b _).trans (zero _ b)))

end Cert.Mesh

end
-- ==== Proof.Equation.lean ====
/-
# `Equation`: what a device leaves is its block of the sorted array

The devices hold the sixteen blocks of one array of `32768` rows. A column of a panel over all devices is a column of that
array; the kernel leaves it rising, the reference too, and both rearrange the same values, so they leave the same column.
-/
module

public import proofs.«01_k».proof.Proof.Global
public import proofs.«01_k».proof.Proof.Reference
public import proofs.«01_k».proof.Proof.Run
public import Idealize.ShloMosaic.Lib.Layout

@[expose] public section

noncomputable section

namespace Cert.Mesh

open Cert.KernelIdeal Cert.KernelIdeal.Gen Cert.Passes
open Idealize.ShloMosaic Idealize.ShloMosaic.TcCoe Idealize.SL.Sem Idealize.ShloMosaic.SortNet

/-- Device `c`'s block of an array of `32768` rows. -/
abbrev blk {α : Type} (c : Dev nD) (X : (⟨2, ![32768, 512]⟩ : Shape).Idx → α) : S2048x512.Idx → α :=
  Layout.block ⟨2, ![2048, 512]⟩ ⟨2, ![32768, 512]⟩ 0 16 c X

/-- An element of a block is the element of the array at its place over all devices. -/
theorem blk_apply (c : Dev nD) (X : (⟨2, ![32768, 512]⟩ : Shape).Idx → EReal) (k : Fin (2 ^ 11)) (q : Fin 512) (y : S2048x512.Idx)
    (h0 : (y 0).val = k.val) (h1 : (y 1).val = q.val) : blk c X y = column (n := 32768) X q (pos c k) := by
  refine congrArg X (funext fun a => ?_)
  match a with
  | 0 => exact Fin.ext (by show c.val * 2048 + (y 0).val = c.val * 2 ^ 11 + k.val; omega)
  | 1 => exact Fin.ext h1

/-- Column `q` of panel `i` is column `128 i + q` of the array. -/
def at' (i : Fin 4) (q : Fin 128) : Fin 512 := ⟨128 * i.val + q.val, by omega⟩

variable (m : (ℓ : Loc nD τ sig) → Buf (Elt Ideal) ℓ) (ρ : Dev nD → PrngReg)
variable (X : (⟨2, ![32768, 512]⟩ : Shape).Idx → EReal)

/-- A column of a panel over all devices, before the exchanges, is a column of the array. -/
theorem whole_input (h : ∀ c : Dev nD, m ((c : Thread nD τ).loc main_arg0) = blk c X) (i : Fin 4) (q : Fin 128) :
    whole (xpan m ρ i) q = column (n := 32768) X (at' i q) :=
  ext_pos fun c k => by
    rw [whole_pos]
    have hx : xstg m ρ c = blk c X := (xstg_eq m ρ c).trans (h c)
    have hr : col (xpan m ρ i c) q k = xstg m ρ c ((xr i).emb (ix2 k q)) := rfl
    rw [hr, hx]
    exact blk_apply c X k (at' i q) _ (show 0 + 1 * k.val = k.val by omega) (show 128 * i.val + 1 * q.val = 128 * i.val + q.val by omega)

/-- After the exchanges it is that column of the array, sorted. -/
theorem whole_output (lt : EReal → EReal → BitVec 1) (hlt : ∀ a b, lt a b = BitVec.ofBool (decide (a < b)))
    (h : ∀ c : Dev nD, m ((c : Thread nD τ).loc main_arg0) = blk c X) (i : Fin 4) (q : Fin 128) :
    whole (V (xpan m ρ i) 10) q = column (n := 32768) (Host.sort ⟨2, ![32768, 512]⟩ 0 lt X) (at' i q) := by
  obtain ⟨hm, σ, hσ⟩ := whole_sorted (xpan m ρ i) q
  obtain ⟨hm', τ, hτ⟩ := sort_column (n := 32768) lt hlt X (at' i q)
  rw [whole_input m ρ X h] at hσ
  rw [hσ] at hm ⊢
  rw [hτ] at hm' ⊢
  exact sorted_unique (column (n := 32768) X (at' i q)) σ τ hm hm'

/-- What device `c` leaves is its block of the sorted array. -/
theorem out_eq (lt : EReal → EReal → BitVec 1) (hlt : ∀ a b, lt a b = BitVec.ofBool (decide (a < b)))
    (h : ∀ c : Dev nD, m ((c : Thread nD τ).loc main_arg0) = blk c X) (c : Dev nD) :
    outAt m ρ c = blk c (Host.sort ⟨2, ![32768, 512]⟩ 0 lt X) := by
  funext (y : S2048x512.Idx)
  have hy : (y 1).val < 512 := (y 1).isLt
  let i : Fin 4 := ⟨(y 1).val / 128, by omega⟩
  let q : Fin 128 := ⟨(y 1).val % 128, Nat.mod_lt _ (by decide)⟩
  let k : Fin (2 ^ 11) := ⟨(y 0).val, (y 0).isLt⟩
  have hl : outAt m ρ c y = col (V (xpan m ρ i) 10 c) q k := by
    unfold outAt k0_pay92 V col
    rfl
  rw [hl, ← whole_pos, whole_output m ρ X lt hlt h]
  exact (blk_apply c _ k (at' i q) y rfl (show (y 1).val = 128 * ((y 1).val / 128) + (y 1).val % 128 by omega)).symm

end Cert.Mesh

end
-- ==== Proof.Algebraic.lean ====
/-
# `Algebraic`: the idealized kernel computes the reference

From memories in which every device's argument is its block of the reference's, both run to their ends, every device's
result is its block of the reference's result, and the arguments stay as they were.
-/
module

public import proofs.«01_k».proof.Proof.Frames
public import proofs.«01_k».proof.Proof.Equation

@[expose] public section

noncomputable section

namespace Cert.Mesh

open Idealize.ShloMosaic
open Idealize.ShloMosaic.TcCoe
open Idealize.SL.Sem

/-- What the reference leaves of `X`: widening an extended real changes nothing, so it is `X` with every column sorted. -/
def result (X : (⟨2, ![32768, 512]⟩ : Shape).Idx → EReal) : (⟨2, ![32768, 512]⟩ : Shape).Idx → EReal :=
  Host.sort ⟨2, ![32768, 512]⟩ 0 (Cert.ReferenceIdeal.comparator_f32_d0 (F := Ideal)) X

/-- The reference leaves its result, and its argument as it was. -/
theorem run_reference (m : (ℓ : Loc Cert.ReferenceIdeal.nD Cert.ReferenceIdeal.τ Cert.ReferenceIdeal.sig) → Buf (Elt Ideal) ℓ)
    (g : Dev Cert.ReferenceIdeal.nD → PrngReg) (c : Dev Cert.ReferenceIdeal.nD) :
    θ_run (Cert.ReferenceIdeal.defs (F := Ideal)) (onTc (τ := Cert.ReferenceIdeal.τ) (Cert.ReferenceIdeal.main (F := Ideal))) ⟨m, fun _ => 0, g⟩ fun r =>
      r.2.mem ((c.tc : Thread Cert.ReferenceIdeal.nD Cert.ReferenceIdeal.τ).loc Cert.ReferenceIdeal.main_v1)
          = result (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono (fun _ h => h c) (Cert.ReferenceIdeal.Value.run (F := Ideal) m g)

/-- If every device's argument is its block of `X`, every device leaves its block of the reference's result, and its argument as
    it was. -/
theorem run_kernel (m : (ℓ : Loc Cert.KernelIdeal.nD Cert.KernelIdeal.τ Cert.KernelIdeal.sig) → Buf (Elt Ideal) ℓ)
    (g : Dev Cert.KernelIdeal.nD → PrngReg) (X : (⟨2, ![32768, 512]⟩ : Shape).Idx → EReal)
    (h : ∀ c : Dev Cert.KernelIdeal.nD, m ((c.tc : Thread Cert.KernelIdeal.nD Cert.KernelIdeal.τ).loc Cert.KernelIdeal.main_arg0) = blk c X) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        r.2.mem ((c.tc : Thread Cert.KernelIdeal.nD Cert.KernelIdeal.τ).loc Cert.KernelIdeal.main_v1) = blk c (result X)
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0) :=
  (θ_run Cert.KernelIdeal.defs _ _).mono
    (fun _ hr c => ⟨(hr.1 c (1 : Fin 2)).trans ((finalA_o m g c).trans (out_eq m g X _ comparator_lt h c)),
      (hr.1 c (0 : Fin 2)).trans (finalA_x m g c)⟩)
    (run_main (F := Ideal) m g)

/-- Every device ends with its block of the sorted array, and the reference with the whole of it. -/
theorem algebraic : Cert.algebraic_KernelIdeal_ReferenceIdeal := fun m g m' g' _ h =>
  ⟨result (m' (((0 : Dev Cert.ReferenceIdeal.nD).tc : Thread Cert.ReferenceIdeal.nD Cert.ReferenceIdeal.τ).loc Cert.ReferenceIdeal.main_arg0)),
    run_kernel m g _ h, run_reference m' g' 0⟩

end Cert.Mesh

end
-- ==== Proof.lean ====
/-
# `Proof`: the certificate's claim, assembled

Every run of the kernel, of its idealization and of the reference ends with arguments unchanged and counters at zero,
and the idealized kernel leaves on every device its block of what the reference computes.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- Everything that is claimed of the three programs. -/
theorem claim : Cert.Claim :=
  ⟨Cert.Kernel.Gen.facts, Cert.KernelIdeal.Gen.facts, Cert.ReferenceIdeal.Gen.facts, Cert.Mesh.frame_kernel, Cert.Mesh.frame_ideal,
    Cert.Mesh.frame_reference, trivial, Cert.Mesh.algebraic⟩

end Cert.Proof

end
